-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "masked" .f32 0xFE000000#32 ⊥
  ∧ IdealRules.named_const.Statement Cert.KernelIdeal.κ "score" .f32 0x3E8293EE#32 (((11863283 / 67108864) * (Real.log 2)⁻¹ : ℝ) : EReal)

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S40x100x8x32 : Shape := ⟨4, ![40, 100, 8, 32]⟩
abbrev S40x1024x8x32 : Shape := ⟨4, ![40, 1024, 8, 32]⟩
abbrev S40x1024x8 : Shape := ⟨3, ![40, 1024, 8]⟩
abbrev S40x100x32 : Shape := ⟨3, ![40, 100, 32]⟩
abbrev S_ : Shape := ⟨0, ![]⟩

class Facts : Prop where
  bcast_S_S40x1024x8 : S_.BroadcastsInDim S40x1024x8 (![] : Fin 0 → Fin S40x1024x8.rank)

variable [Facts]

def fn {F : FTy → Type} [FloatOps F] (main_arg0 : FVec F S40x100x8x32 .bf16) (main_arg1 : FVec F S40x1024x8x32 .fp8e4m3) (main_arg2 : FVec F S40x1024x8 .f32) (main_arg3 : FVec F S40x1024x8x32 .fp8e4m3) (main_arg4 : FVec F S40x1024x8 .f32) (main_arg5 : IVec S40x100x32 32) : IVec S40x1024x8 1 :=
  let main_cst : FVec F S_ .f32 := constant S_ .f32 0x00000000#32
  let main_v0 : FVec F S40x1024x8 .f32 := broadcastInDim S40x1024x8 ![] bcast_S_S40x1024x8 main_cst
  let main_v1 : IVec S40x1024x8 1 := cmpf .ogt main_arg2 main_v0
  main_v1
-- ==== Kernel.lean ====
abbrev S40x100x8x32 : Shape := ⟨4, ![40, 100, 8, 32]⟩
abbrev S40x1024x8x32 : Shape := ⟨4, ![40, 1024, 8, 32]⟩
abbrev S40x1024x8 : Shape := ⟨3, ![40, 1024, 8]⟩
abbrev S40x100x32 : Shape := ⟨3, ![40, 100, 32]⟩
abbrev S40x8x32x100 : Shape := ⟨4, ![40, 8, 32, 100]⟩
abbrev S40x256x100 : Shape := ⟨3, ![40, 256, 100]⟩
abbrev S40x8x32x1024 : Shape := ⟨4, ![40, 8, 32, 1024]⟩
abbrev S40x256x1024 : Shape := ⟨3, ![40, 256, 1024]⟩
abbrev S40x8x1024 : Shape := ⟨3, ![40, 8, 1024]⟩
abbrev S40x32x100 : Shape := ⟨3, ![40, 32, 100]⟩
abbrev S100x40x256 : Shape := ⟨3, ![100, 40, 256]⟩
abbrev S1x256x100 : Shape := ⟨3, ![1, 256, 100]⟩
abbrev S1x256x1024 : Shape := ⟨3, ![1, 256, 1024]⟩
abbrev S1x8x1024 : Shape := ⟨3, ![1, 8, 1024]⟩
abbrev S1x32x100 : Shape := ⟨3, ![1, 32, 100]⟩
abbrev S100x8x256 : Shape := ⟨3, ![100, 8, 256]⟩
abbrev S416x256 : Shape := ⟨2, ![416, 256]⟩
abbrev S104x8x256 : Shape := ⟨3, ![104, 8, 256]⟩
abbrev S104x128 : Shape := ⟨2, ![104, 128]⟩
abbrev S416x128 : Shape := ⟨2, ![416, 128]⟩
abbrev S32x100 : Shape := ⟨2, ![32, 100]⟩
abbrev S32x28 : Shape := ⟨2, ![32, 28]⟩
abbrev S32x128 : Shape := ⟨2, ![32, 128]⟩
abbrev S128 : Shape := ⟨1, ![128]⟩
abbrev S1x128 : Shape := ⟨2, ![1, 128]⟩
abbrev S128x128 : Shape := ⟨2, ![128, 128]⟩
abbrev S32x128x1 : Shape := ⟨3, ![32, 128, 1]⟩
abbrev S128x1024 : Shape := ⟨2, ![128, 1024]⟩
abbrev S8x1024 : Shape := ⟨2, ![8, 1024]⟩
abbrev S256x100 : Shape := ⟨2, ![256, 100]⟩
abbrev S256x28 : Shape := ⟨2, ![256, 28]⟩
abbrev S256x128 : Shape := ⟨2, ![256, 128]⟩
abbrev S1x128x1024 : Shape := ⟨3, ![1, 128, 1024]⟩
abbrev S256x1024 : Shape := ⟨2, ![256, 1024]⟩
abbrev S416x1024 : Shape := ⟨2, ![416, 1024]⟩
abbrev S4x104x1024 : Shape := ⟨3, ![4, 104, 1024]⟩
abbrev S4x1024 : Shape := ⟨2, ![4, 1024]⟩
abbrev S4x1x1024 : Shape := ⟨3, ![4, 1, 1024]⟩
abbrev S4x104 : Shape := ⟨2, ![4, 104]⟩
abbrev S4x104x1 : Shape := ⟨3, ![4, 104, 1]⟩
abbrev S1x32x1024 : Shape := ⟨3, ![1, 32, 1024]⟩
abbrev S32x1024 : Shape := ⟨2, ![32, 1024]⟩
abbrev S1x1x1024 : Shape := ⟨3, ![1, 1, 1024]⟩
abbrev S1x1024 : Shape := ⟨2, ![1, 1024]⟩
abbrev S1x104x1024 : Shape := ⟨3, ![1, 104, 1024]⟩
abbrev S104x1024 : Shape := ⟨2, ![104, 1024]⟩
abbrev S32x104 : Shape := ⟨2, ![32, 104]⟩
abbrev S128x104 : Shape := ⟨2, ![128, 104]⟩
abbrev S128x24 : Shape := ⟨2, ![128, 24]⟩
abbrev S1x104x1 : Shape := ⟨3, ![1, 104, 1]⟩
abbrev S104x1 : Shape := ⟨2, ![104, 1]⟩
abbrev S104x256 : Shape := ⟨2, ![104, 256]⟩
abbrev S104x1x256 : Shape := ⟨3, ![104, 1, 256]⟩
abbrev S40x100x256 : Shape := ⟨3, ![40, 100, 256]⟩

abbrev nBuf : Space → Nat
  | .hbm => 17
  | .vmem => 16
  | .smem => 0
  | _ => 0

abbrev bufTy : (tb : Table) → Fin (tcTables nBuf tb) → BufTy
  | .hbm, ⟨0, _⟩ => ⟨S40x100x8x32, .bf16⟩
  | .hbm, ⟨1, _⟩ => ⟨S40x1024x8x32, .fp8e4m3⟩
  | .hbm, ⟨2, _⟩ => ⟨S40x1024x8, .f32⟩
  | .hbm, ⟨3, _⟩ => ⟨S40x1024x8x32, .fp8e4m3⟩
  | .hbm, ⟨4, _⟩ => ⟨S40x1024x8, .f32⟩
  | .hbm, ⟨5, _⟩ => ⟨S40x100x32, .i32⟩
  | .hbm, ⟨6, _⟩ => ⟨S40x8x32x100, .bf16⟩
  | .hbm, ⟨7, _⟩ => ⟨S40x256x100, .bf16⟩
  | .hbm, ⟨8, _⟩ => ⟨S40x8x32x1024, .fp8e4m3⟩
  | .hbm, ⟨9, _⟩ => ⟨S40x256x1024, .fp8e4m3⟩
  | .hbm, ⟨10, _⟩ => ⟨S40x8x32x1024, .fp8e4m3⟩
  | .hbm, ⟨11, _⟩ => ⟨S40x256x1024, .fp8e4m3⟩
  | .hbm, ⟨12, _⟩ => ⟨S40x8x1024, .f32⟩
  | .hbm, ⟨13, _⟩ => ⟨S40x8x1024, .f32⟩
  | .hbm, ⟨14, _⟩ => ⟨S40x32x100, .i32⟩
  | .hbm, ⟨15, _⟩ => ⟨S100x40x256, .bf16⟩
  | .hbm, ⟨16, _⟩ => ⟨S40x100x256, .bf16⟩
  | .local _ .vmem, ⟨0, _⟩ => ⟨S1x256x100, .bf16⟩
  | .local _ .vmem, ⟨1, _⟩ => ⟨S1x256x100, .bf16⟩
  | .local _ .vmem, ⟨2, _⟩ => ⟨S1x256x1024, .fp8e4m3⟩
  | .local _ .vmem, ⟨3, _⟩ => ⟨S1x256x1024, .fp8e4m3⟩
  | .local _ .vmem, ⟨4, _⟩ => ⟨S1x8x1024, .f32⟩
  | .local _ .vmem, ⟨5, _⟩ => ⟨S1x8x1024, .f32⟩
  | .local _ .vmem, ⟨6, _⟩ => ⟨S1x256x1024, .fp8e4m3⟩
  | .local _ .vmem, ⟨7, _⟩ => ⟨S1x256x1024, .fp8e4m3⟩
  | .local _ .vmem, ⟨8, _⟩ => ⟨S1x8x1024, .f32⟩
  | .local _ .vmem, ⟨9, _⟩ => ⟨S1x8x1024, .f32⟩
  | .local _ .vmem, ⟨10, _⟩ => ⟨S1x32x100, .i32⟩
  | .local _ .vmem, ⟨11, _⟩ => ⟨S1x32x100, .i32⟩
  | .local _ .vmem, ⟨12, _⟩ => ⟨S100x8x256, .bf16⟩
  | .local _ .vmem, ⟨13, _⟩ => ⟨S100x8x256, .bf16⟩
  | .local _ .vmem, ⟨14, _⟩ => ⟨S416x256, .bf16⟩
  | .local _ .vmem, ⟨15, _⟩ => ⟨S104x8x256, .f32⟩
  | _, _ => ⟨S40x100x8x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![40], ![false]⟩

def k0_off1 (i : grid0.Coords) : Fin 3 → Nat :=
  let c0_333 : Index := 0#32
  let arg0 : BitVec 32 := BitVec.ofNat 32 (i 0).val
  let c8_i32 : BitVec 32 := 8#32
  let v0 : BitVec 32 := Scalar.remsi arg0 c8_i32
  let v1058 : Index := Scalar.indexCast v0
  let c0_334 : Index := 0#32
  ![0, v1058.toNat, 0]
def k0_cond2 (i : grid0.Coords) : BitVec 1 :=
  let arg0 : BitVec 32 := BitVec.ofNat 32 (i 0).val
  let c8_i32 : BitVec 32 := 8#32
  let v0 : BitVec 32 := Scalar.remsi arg0 c8_i32
  let c7_i32 : BitVec 32 := 7#32
  let v1062 : BitVec 1 := Scalar.cmpi .eq v0 c7_i32
  let v1063 : BitVec 32 := Scalar.extui v1062
  let c0_i32_335 : BitVec 32 := 0#32
  let v1064 : BitVec 1 := Scalar.cmpi .ne v1063 c0_i32_335
  v1064

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

abbrev stage0_0 : Fin 2 → Memref sig .tc .vmem S1x256x100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x100 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S100x8x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "masked" => some ⊥
  | "score" => some (((11863283 / 67108864) * (Real.log 2)⁻¹ : ℝ) : EReal)
  | _ => none
-- ==== ReferenceIdeal.lean ====
abbrev S40x100x8x32 : Shape := ⟨4, ![40, 100, 8, 32]⟩
abbrev S40x1024x8x32 : Shape := ⟨4, ![40, 1024, 8, 32]⟩
abbrev S40x1024x8 : Shape := ⟨3, ![40, 1024, 8]⟩
abbrev S40x100x32 : Shape := ⟨3, ![40, 100, 32]⟩
abbrev S32 : Shape := ⟨1, ![32]⟩
abbrev S40x100x32x1 : Shape := ⟨4, ![40, 100, 32, 1]⟩
abbrev S1x1x1x32 : Shape := ⟨4, ![1, 1, 1, 32]⟩
abbrev S40x100x32x32 : Shape := ⟨4, ![40, 100, 32, 32]⟩
abbrev S_ : Shape := ⟨0, ![]⟩
abbrev S40x100x1024 : Shape := ⟨3, ![40, 100, 1024]⟩
abbrev S40x100 : Shape := ⟨2, ![40, 100]⟩
abbrev S40x100x1 : Shape := ⟨3, ![40, 100, 1]⟩
abbrev S40x8x100x1024 : Shape := ⟨4, ![40, 8, 100, 1024]⟩
abbrev S40x8x1024 : Shape := ⟨3, ![40, 8, 1024]⟩
abbrev S40x8x1x1024 : Shape := ⟨4, ![40, 8, 1, 1024]⟩
abbrev S40x1x100x1024 : Shape := ⟨4, ![40, 1, 100, 1024]⟩
abbrev S40x8x100 : Shape := ⟨3, ![40, 8, 100]⟩
abbrev S40x8x100x1 : Shape := ⟨4, ![40, 8, 100, 1]⟩
abbrev S40x8x32x100 : Shape := ⟨4, ![40, 8, 32, 100]⟩
abbrev S40x100x8 : Shape := ⟨3, ![40, 100, 8]⟩
abbrev S40x100x8x1 : Shape := ⟨4, ![40, 100, 8, 1]⟩
abbrev S40x100x256 : Shape := ⟨3, ![40, 100, 256]⟩

abbrev nBuf : Space → Nat
  | .hbm => 66
  | .vmem => 4
  | .smem => 0
  | _ => 0

abbrev bufTy : (tb : Table) → Fin (tcTables nBuf tb) → BufTy
  | .hbm, ⟨0, _⟩ => ⟨S40x100x8x32, .bf16⟩
  | .hbm, ⟨1, _⟩ => ⟨S40x1024x8x32, .fp8e4m3⟩
  | .hbm, ⟨2, _⟩ => ⟨S40x1024x8, .f32⟩
  | .hbm, ⟨3, _⟩ => ⟨S40x1024x8x32, .fp8e4m3⟩
  | .hbm, ⟨4, _⟩ => ⟨S40x1024x8, .f32⟩
  | .hbm, ⟨5, _⟩ => ⟨S40x100x32, .i32⟩
  | .hbm, ⟨6, _⟩ => ⟨S40x1024x8x32, .bf16⟩
  | .hbm, ⟨7, _⟩ => ⟨S40x1024x8x32, .bf16⟩
  | .hbm, ⟨8, _⟩ => ⟨S40x100x32, .i32⟩
  | .hbm, ⟨9, _⟩ => ⟨S32, .i32⟩
  | .hbm, ⟨10, _⟩ => ⟨S40x100x32x1, .i32⟩
  | .hbm, ⟨11, _⟩ => ⟨S1x1x1x32, .i32⟩
  | .hbm, ⟨12, _⟩ => ⟨S40x100x32x32, .i32⟩
  | .hbm, ⟨13, _⟩ => ⟨S40x100x32x32, .i32⟩
  | .hbm, ⟨14, _⟩ => ⟨S40x100x32x32, .i32⟩
  | .hbm, ⟨15, _⟩ => ⟨S_, .i32⟩
  | .hbm, ⟨16, _⟩ => ⟨S40x100x32x32, .i32⟩
  | .hbm, ⟨17, _⟩ => ⟨S40x100x32x32, .i32⟩
  | .hbm, ⟨18, _⟩ => ⟨S_, .i32⟩
  | .hbm, ⟨19, _⟩ => ⟨S40x100x32x32, .i32⟩
  | .hbm, ⟨20, _⟩ => ⟨S40x100x32x32, .i1⟩
  | .hbm, ⟨21, _⟩ => ⟨S40x100x32x32, .i1⟩
  | .hbm, ⟨22, _⟩ => ⟨S40x100x1024, .i1⟩
  | .hbm, ⟨23, _⟩ => ⟨S_, .i32⟩
  | .hbm, ⟨24, _⟩ => ⟨S40x100x32, .i32⟩
  | .hbm, ⟨25, _⟩ => ⟨S40x100x32, .i1⟩
  | .hbm, ⟨26, _⟩ => ⟨S_, .i1⟩
  | .hbm, ⟨27, _⟩ => ⟨S40x100, .i1⟩
  | .hbm, ⟨28, _⟩ => ⟨S40x100x1, .i1⟩
  | .hbm, ⟨29, _⟩ => ⟨S40x100x1024, .i1⟩
  | .hbm, ⟨30, _⟩ => ⟨S40x100x1024, .i1⟩
  | .hbm, ⟨31, _⟩ => ⟨S40x8x100x1024, .f32⟩
  | .hbm, ⟨32, _⟩ => ⟨S_, .f32⟩
  | .hbm, ⟨33, _⟩ => ⟨S40x1024x8, .f32⟩
  | .hbm, ⟨34, _⟩ => ⟨S40x1024x8, .f32⟩
  | .hbm, ⟨35, _⟩ => ⟨S40x8x1024, .f32⟩
  | .hbm, ⟨36, _⟩ => ⟨S40x8x1x1024, .f32⟩
  | .hbm, ⟨37, _⟩ => ⟨S40x8x100x1024, .f32⟩
  | .hbm, ⟨38, _⟩ => ⟨S40x8x100x1024, .f32⟩
  | .hbm, ⟨39, _⟩ => ⟨S40x1x100x1024, .i1⟩
  | .hbm, ⟨40, _⟩ => ⟨S_, .f32⟩
  | .hbm, ⟨41, _⟩ => ⟨S_, .f32⟩
  | .hbm, ⟨42, _⟩ => ⟨S40x8x100x1024, .i1⟩
  | .hbm, ⟨43, _⟩ => ⟨S40x8x100x1024, .f32⟩
  | .hbm, ⟨44, _⟩ => ⟨S40x8x100x1024, .f32⟩
  | .hbm, ⟨45, _⟩ => ⟨S_, .f32⟩
  | .hbm, ⟨46, _⟩ => ⟨S40x8x100, .f32⟩
  | .hbm, ⟨47, _⟩ => ⟨S40x8x100x1, .f32⟩
  | .hbm, ⟨48, _⟩ => ⟨S40x8x100x1024, .f32⟩
  | .hbm, ⟨49, _⟩ => ⟨S40x8x100x1024, .f32⟩
  | .hbm, ⟨50, _⟩ => ⟨S40x8x100x1024, .f32⟩
  | .hbm, ⟨51, _⟩ => ⟨S40x8x1024, .f32⟩
  | .hbm, ⟨52, _⟩ => ⟨S40x8x1x1024, .f32⟩
  | .hbm, ⟨53, _⟩ => ⟨S40x8x100x1024, .f32⟩
  | .hbm, ⟨54, _⟩ => ⟨S40x8x100x1024, .f32⟩
  | .hbm, ⟨55, _⟩ => ⟨S40x8x100x1024, .bf16⟩
  | .hbm, ⟨56, _⟩ => ⟨S40x8x32x100, .f32⟩
  | .hbm, ⟨57, _⟩ => ⟨S40x100x8x32, .f32⟩
  | .hbm, ⟨58, _⟩ => ⟨S_, .f32⟩
  | .hbm, ⟨59, _⟩ => ⟨S40x8x100, .f32⟩
  | .hbm, ⟨60, _⟩ => ⟨S40x100x8, .f32⟩
  | .hbm, ⟨61, _⟩ => ⟨S40x100x8x1, .f32⟩
  | .hbm, ⟨62, _⟩ => ⟨S40x100x8x32, .f32⟩
  | .hbm, ⟨63, _⟩ => ⟨S40x100x8x32, .f32⟩
  | .hbm, ⟨64, _⟩ => ⟨S40x100x256, .f32⟩
  | .hbm, ⟨65, _⟩ => ⟨S40x100x256, .bf16⟩
  | .local _ .vmem, ⟨0, _⟩ => ⟨S40x1024x8x32, .fp8e4m3⟩
  | .local _ .vmem, ⟨1, _⟩ => ⟨S40x1024x8x32, .fp8e4m3⟩
  | .local _ .vmem, ⟨2, _⟩ => ⟨S40x1024x8x32, .bf16⟩
  | .local _ .vmem, ⟨3, _⟩ => ⟨S40x1024x8x32, .bf16⟩
  | _, _ => ⟨S40x100x8x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S40x1024x8x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1024x8x32 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x1024x8x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x1024x8x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Attention.Word.Cases.lean ====
/- The body of the kernel by its branch conditions: what each point of the grid takes, and the buffers a point works on. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- The buffers the lines after the region WRITE, as references: results computed from contents the run does not name
    (an operand the body wrote by its own DMA, or a forgotten output), so nothing is stated of them either. -/
def T0 : Finset (Ref sig .tc) := {main_v10}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, e0]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x100 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x100 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S100x8x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S416x256 .bf16 := Memref.whole cc0_scratch0
abbrev scM0_1 : Memref sig .tc .vmem S104x8x256 .f32 := Memref.whole cc0_scratch1
/-- The scratch `arg8` the kernel carries between points, as a view: what it holds is stated through it. -/
abbrev VS0_0 : View sig .tc .vmem S416x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.Attention.Word.RunA.lean ====
/- On the first point of the grid: the eye is stored, the flush is not taken. -/
module

public import proofs.«01_k».proof.Proof.Attention.Word.Cases

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_A (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) :
    { LS0 : List (View.Piece (Elt F) S416x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ f, arg8.view.loc (c : Thread nD τ) ↦[arg8.view.set]{fullShare} arg8.view.writes (Elt F) f LS0) ∗ (∃ d, owns (c : Thread nD τ) arg9 fullShare d)) -∗ K ⟨⟩))
          ⊢ wp frame (wpE (defs₀ (F := F)) Variants.none c none) E (cc0_masked_cross_attention i arg1 harg1 arg2 harg2 arg3 harg3 arg4 harg4 arg5 harg5 arg6 harg6 arg7 harg7 arg8 harg8 arg9 harg9) K } := by
  refine ⟨?_, fun E K => ?run⟩
  case run =>
    simp only [cc0_masked_cross_attention_eq_skeleton]; unfold cc0_masked_cross_attention_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]; · iexists _; iexact HS0
    iexists _, _; isplitr; swap; · iexact HS1
    ipureintro; rfl

end Cert.Kernel.Gen

end
-- ==== Proof.Attention.Word.RunB.lean ====
/- On a point that is neither the first nor the last of its group of eight: no conditional is taken. -/
module

public import proofs.«01_k».proof.Proof.Attention.Word.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 38: 34 of 40), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_B (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (xs0 : Vec F S416x256 .bf16) :
    { LS0 : List (View.Piece (Elt F) S416x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (arg8.view.loc (c : Thread nD τ) ↦[arg8.view.set]{fullShare} arg8.view.writes (Elt F) (harg8.unread xs0) LS0) ∗ (∃ d, owns (c : Thread nD τ) arg9 fullShare d)) -∗ K ⟨⟩))
          ⊢ wp frame (wpE (defs₀ (F := F)) Variants.none c none) E (cc0_masked_cross_attention i arg1 harg1 arg2 harg2 arg3 harg3 arg4 harg4 arg5 harg5 arg6 harg6 arg7 harg7 arg8 harg8 arg9 harg9) K } := by
  refine ⟨?_, fun E K => ?run⟩
  case run =>
    simp only [cc0_masked_cross_attention_eq_skeleton]; unfold cc0_masked_cross_attention_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]; · iexact HS0
    iexists _, _; isplitr; swap; · iexact HS1
    ipureintro; rfl

end Cert.Kernel.Gen

end
-- ==== Proof.Attention.Word.RunC.lean ====
/- On the last point of a group of eight: the flush is taken, the first conditional is not. -/
module

public import proofs.«01_k».proof.Proof.Attention.Word.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7, 15, 23, 31, 39), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_C (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (xs0 : Vec F S416x256 .bf16) :
    { LS0 : List (View.Piece (Elt F) S416x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (arg8.view.loc (c : Thread nD τ) ↦[arg8.view.set]{fullShare} arg8.view.writes (Elt F) (harg8.unread xs0) LS0) ∗ (∃ d, owns (c : Thread nD τ) arg9 fullShare d)) -∗ K ⟨⟩))
          ⊢ wp frame (wpE (defs₀ (F := F)) Variants.none c none) E (cc0_masked_cross_attention i arg1 harg1 arg2 harg2 arg3 harg3 arg4 harg4 arg5 harg5 arg6 harg6 arg7 harg7 arg8 harg8 arg9 harg9) K } := by
  refine ⟨?_, fun E K => ?run⟩
  case run =>
    simp only [cc0_masked_cross_attention_eq_skeleton]; unfold cc0_masked_cross_attention_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]; · iexact HS0
    iexists _, _; isplitr; swap; · iexact HS1
    ipureintro; rfl

end Cert.Kernel.Gen

end
-- ==== Proof.Attention.Word.Frame.lean ====
/- The frame of the kernel at the words: it runs, and its arguments end as they were. -/
module

public import proofs.«01_k».proof.Proof.Attention.Word.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg8`, which the kernel carries between points, cover it: 3 pieces of `S416x128` tiling it (Lib/Ring.lean `Piece.tiledL`). -/
theorem scover0_A_0 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (y : S416x256.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).1 S416x128.size (by sl_kernel_rfl) y

/-- What case A leaves in scratch `arg8`: its pieces read back over junk. -/
def sout0_A_0 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) : Vec F S416x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4 x5).1)

/-- What case B leaves in scratch `arg8`: its pieces (stores, a counted loop's segment) read back over what the point before left there, which it read first. -/
def sout0_B_0 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (xs0 : Vec F S416x256 .bf16) : Vec F S416x256 .bf16 :=
  arg8.view.read (Elt F) (arg8.view.writes (Elt F) (harg8.unread xs0) (kernelRun0_B c i arg1 harg1 arg2 harg2 arg3 harg3 arg4 harg4 arg5 harg5 arg6 harg6 arg7 harg7 arg8 harg8 arg9 harg9 hc0 hc1 x0 x1 x2 x3 x4 x5 xs0).1)

/-- What case C leaves in scratch `arg8`: its pieces (stores, a counted loop's segment) read back over what the point before left there, which it read first. -/
def sout0_C_0 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (xs0 : Vec F S416x256 .bf16) : Vec F S416x256 .bf16 :=
  arg8.view.read (Elt F) (arg8.view.writes (Elt F) (harg8.unread xs0) (kernelRun0_C c i arg1 harg1 arg2 harg2 arg3 harg3 arg4 harg4 arg5 harg5 arg6 harg6 arg7 harg7 arg8 harg8 arg9 harg9 hc0 hc1 x0 x1 x2 x3 x4 x5 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S416x256 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 40 = 0 then
      if h1 : (n + 1) % 8 = 7 then
        False.elim (by have hN : n + 1 < 40 := lt_of_lt_of_eq hn (show cfg0.N = 40 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 8 = 7 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 40 = 0) (h1 : ¬t.val % 8 = 7) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 40 = 0) (h1 : ¬t.val % 8 = 7) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 40 = 0) (h1 : t.val % 8 = 7) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  by_cases h0 : t.val % 40 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · rw [PhiS_castSucc m c t, PhiS_zero m c _ _ hz, PhiA0_eq]
        rw [outsAt0_A m c t h0 h1]
        unfold sout0_A_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, H6, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · exfalso; have hN : t.val < 40 := lt_of_lt_of_eq t.isLt (show cfg0.N = 40 from N_0); omega
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 40 := lt_of_lt_of_eq t.isLt (show cfg0.N = 40 from N_0); omega
      · rw [PhiS_castSucc m c t, PhiS_pos m c _ _ hz]
        rw [outsAt0_C m c t h0 h1]
        unfold sout0_C_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · isplitl [HS0 HS1]
          · isplitl [HS0]
            · unfold owns; iexists _; isplitr
              swap; · iexact HS0
              ipureintro; rfl
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 40 := lt_of_lt_of_eq t.isLt (show cfg0.N = 40 from N_0); omega
      · rw [PhiS_castSucc m c t, PhiS_pos m c _ _ hz]
        rw [outsAt0_B m c t h0 h1]
        unfold sout0_B_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · isplitl [HS0 HS1]
          · isplitl [HS0]
            · unfold owns; iexists _; isplitr
              swap; · iexact HS0
              ipureintro; rfl
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.Attention.Cases.lean ====
/- The body of the idealized kernel by its branch conditions: what each point of the grid takes, and the buffers it works on. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, e0]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- The output block is stored to at the last point of each group of eight. -/
theorem liveAt0_6 (t : Fin cfg0.N) (h : t.val % 8 = 7) : cfg0.idle 6 (grid0.coords t) = false := by
  show (!(k0_cond2 (grid0.coords t) == 1#1)) = false
  rw [(hcond0_1 t).mpr h]; rfl
/-- At the other points the output block is left alone. -/
theorem idleAt0_6 (t : Fin cfg0.N) (h : ¬ t.val % 8 = 7) : cfg0.idle 6 (grid0.coords t) = true := by
  show (!(k0_cond2 (grid0.coords t) == 1#1)) = true
  rw [beq_eq_false_iff_ne.mpr (fun h' => h ((hcond0_1 t).mp h'))]; rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x100 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x100 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S100x8x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S416x256 .bf16 := Memref.whole cc0_scratch0
abbrev scM0_1 : Memref sig .tc .vmem S104x8x256 .f32 := Memref.whole cc0_scratch1
/-- The scratch `arg8` the kernel carries between points, as a view: what it holds is stated through it. -/
abbrev VS0_0 : View sig .tc .vmem S416x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Attention.RunA.lean ====
/- The idealized kernel's body on the first point of the grid: the diagonal is stored, the flush is not taken. -/
module

public import proofs.«01_k».proof.Proof.Attention.Cases

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- On the first point: the first conditional (writing the mask diagonal) is taken, the flush is not. The body, run on whole staging memrefs holding `x0 … x6` and scratch holding `xs0`, `xs1`, leaves the
    inputs as they were and its stores, as pieces (last first), in the two scratch buffers; the output block is untouched. -/
noncomputable def runA (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    (LS0 : List (View.Piece (Elt F) S416x256 .bf16)) ×' { LS1 : List (View.Piece (Elt F) S104x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0_masked_cross_attention i arg1 harg1 arg2 harg2 arg3 harg3 arg4 harg4 arg5 harg5 arg6 harg6 arg7 harg7 arg8 harg8 arg9 harg9) K } := by
  refine ⟨?_, ?_, fun E K => ?run⟩
  case run =>
    simp only [cc0_masked_cross_attention_eq_skeleton]; unfold cc0_masked_cross_attention_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexact HS0
    iexact HS1

end Cert.KernelIdeal.Gen

end
-- ==== Proof.Attention.RunB.lean ====
/- The idealized kernel's body on a point that is neither the first nor the last of its group of eight images. -/
module

public import proofs.«01_k».proof.Proof.Attention.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- On a point that is neither first nor last of its group of eight: no conditional is taken. The body, run on whole staging memrefs holding `x0 … x6` and scratch holding `xs0`, `xs1`, leaves the
    inputs as they were and its stores, as pieces (last first), in the two scratch buffers; the output block is untouched. -/
noncomputable def runB (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    (LS0 : List (View.Piece (Elt F) S416x256 .bf16)) ×' { LS1 : List (View.Piece (Elt F) S104x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0_masked_cross_attention i arg1 harg1 arg2 harg2 arg3 harg3 arg4 harg4 arg5 harg5 arg6 harg6 arg7 harg7 arg8 harg8 arg9 harg9) K } := by
  refine ⟨?_, ?_, fun E K => ?run⟩
  case run =>
    simp only [cc0_masked_cross_attention_eq_skeleton]; unfold cc0_masked_cross_attention_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexact HS0
    iexact HS1

end Cert.KernelIdeal.Gen

end
-- ==== Proof.Attention.RunC.lean ====
/- The idealized kernel's body on the last point of a group of eight images: the flush is taken. -/
module

public import proofs.«01_k».proof.Proof.Attention.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- On the last point of a group of eight: the flush is taken, the first conditional is not. The body, run on whole staging memrefs holding `x0 … x6` and scratch holding `xs0`, `xs1`, leaves the
    inputs as they were and its stores, as pieces (last first), in the two scratch buffers and in the output block. -/
noncomputable def runC (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    (LS0 : List (View.Piece (Elt F) S416x256 .bf16)) ×' (LS1 : List (View.Piece (Elt F) S104x8x256 .f32)) ×' { L6 : List (View.Piece (Elt F) S100x8x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread x6) L6) ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0_masked_cross_attention i arg1 harg1 arg2 harg2 arg3 harg3 arg4 harg4 arg5 harg5 arg6 harg6 arg7 harg7 arg8 harg8 arg9 harg9) K } := by
  refine ⟨?_, ?_, ?_, fun E K => ?run⟩
  case run =>
    simp only [cc0_masked_cross_attention_eq_skeleton]; unfold cc0_masked_cross_attention_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [HS0]; · iexact HS0
    iexact HS1

end Cert.KernelIdeal.Gen

end
-- ==== Proof.Attention.Block.lean ====
/- The block that one image leaves in the second scratch buffer, as a function of the image's input blocks. -/
module

public import proofs.«01_k».proof.Proof.Attention.Cases
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's vectors, in the kernel's own operations

The words the body computes from the blocks it reads, spelled once: each definition is one step of the kernel
(the packed mask codes, one group's left operand, its weights, its heads' products), over variables. -/

/-- Division by a positive constant rounded down, as the kernel's words have it. -/
def floorDivW {s : Shape} (x : IVec s 32) (n : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt n 0#32)) (Scalar.extui (Scalar.cmpi .slt n 0#32)))))
      (cmpi .ne (remsi x (broadcast s n)) (broadcast s 0#32)))
    (subi (divsi x (broadcast s n)) (broadcast s 1#32)) (divsi x (broadcast s n))

/-- The remainder of the same division. -/
def floorModW {s : Shape} (x : IVec s 32) (n : BitVec 32) (h : s.Broadcasts s) : IVec s 32 :=
  select (andi (xori (cmpi .slt (remsi x (broadcast s (Scalar.select (Scalar.cmpi .eq n 0#32) 1#32 n))) (broadcast s 0#32))
        (broadcastTo s (broadcast s (Scalar.cmpi .slt (Scalar.select (Scalar.cmpi .eq n 0#32) 1#32 n) 0#32)) h))
      (cmpi .ne (remsi x (broadcast s (Scalar.select (Scalar.cmpi .eq n 0#32) 1#32 n))) (broadcast s 0#32)))
    (addi (remsi x (broadcast s (Scalar.select (Scalar.cmpi .eq n 0#32) 1#32 n))) (broadcast s (Scalar.select (Scalar.cmpi .eq n 0#32) 1#32 n)))
    (remsi x (broadcast s (Scalar.select (Scalar.cmpi .eq n 0#32) 1#32 n)))

/-- The lane numbers of a mask tile. -/
def laneW : IVec S32x128 32 := iota .tc S32x128 32 [1] iota_S32x128_d1_w32
/-- The lane numbers of a group's rows. -/
def laneQ : IVec S104x128 32 := iota .tc S104x128 32 [1] iota_S104x128_d1_w32

/-- The packed column a chunk of 128 pixels reads at each lane. -/
def sourceW (off : BitVec 32) : IVec S32x128 32 :=
  shapeCast S32x128 (shapeCast S32x128x1 (select (cmpi .slt (addi (floorDivW laneW 8#32) (broadcast S32x128 off)) (broadcast S32x128 0#32))
      (addi (addi (floorDivW laneW 8#32) (broadcast S32x128 off)) (broadcast S32x128 128#32))
      (addi (floorDivW laneW 8#32) (broadcast S32x128 off))) shapeCasts_S32x128_S32x128x1) shapeCasts_S32x128x1_S32x128

/-- The mask codes of the 128 pixels whose packed columns start at `off`. -/
def chunkF (pk : IVec S32x128 32) (off : BitVec 32) : FVec F S128x128 .fp8e4m3 :=
  bitcastToFloat .fp8e4m3 (bitcast S128x128 8 (shli (andi (shrui (dynamicGather 1 pk (sourceW off)) (floorModW laneW 8#32 broadcasts_S32x128_S32x128))
    (broadcast S32x128 16843009#32)) (broadcast S32x128 6#32)) bitcasts_S32x128_w32_S128x128_w8)

/-- The mask codes of all 1024 pixels. -/
def codesF (w : Vec F S1x32x100 .i32) : FVec F S128x1024 .fp8e4m3 :=
  concatenate S128x1024 1 [⟨S128x128, chunkF (k0_pay4 w) 0#32⟩, ⟨S128x128, chunkF (k0_pay4 w) 16#32⟩, ⟨S128x128, chunkF (k0_pay4 w) 32#32⟩, ⟨S128x128, chunkF (k0_pay4 w) 48#32⟩, ⟨S128x128, chunkF (k0_pay4 w) 64#32⟩, ⟨S128x128, chunkF (k0_pay4 w) 80#32⟩, ⟨S128x128, chunkF (k0_pay4 w) 96#32⟩, ⟨S128x128, chunkF (k0_pay4 w) 112#32⟩]
    concatenates_S128x128_S128x128_S128x128_S128x128_S128x128_S128x128_S128x128_S128x128_S128x1024_d1

/-- One head's rows of a group: the group's queries on the head's 32 lanes, zero elsewhere. -/
def headRows (qr : FVec F S104x128 .f32) (h : BitVec 32) : FVec F S104x128 .f32 :=
  select (cmpi .eq (floorDivW laneQ 32#32) (broadcast S104x128 h)) qr (broadcast S104x128 (Scalar.ofBits .f32 0x00000000#32))

/-- The left half of a group's left operand: the four heads' rows one below the other. -/
def lhsF (qr : FVec F S104x128 .f32) : FVec F S416x128 .bf16 :=
  shapeCast S416x128 (truncf .bf16 (concatenate S416x128 0 [⟨S104x128, headRows qr 0#32⟩, ⟨S104x128, headRows qr 1#32⟩, ⟨S104x128, headRows qr 2#32⟩, ⟨S104x128, headRows qr 3#32⟩]
    concatenates_S104x128_S104x128_S104x128_S104x128_S416x128_d0) bitsLt_bf16_f32) shapeCasts_S416x128_S416x128

/-- One row of sums of a group, down the lanes. -/
def denRow (l : FVec F S4x104x1 .f32) (h : Fin 3 → ℕ) (hs : S4x104x1.Slices h S1x104x1) : FVec F S104x128 .f32 :=
  broadcastTo S104x128 (shapeCast S104x1 (shapeCast S104x1 (extractStridedSlice S1x104x1 h l hs) shapeCasts_S1x104x1_S104x1) shapeCasts_S104x1_S104x1) broadcasts_S104x1_S104x128

/-- A group's divisors: on each lane the row sum of the lane's head. -/
def denF (l : FVec F S4x104x1 .f32) : FVec F S104x128 .f32 :=
  select (cmpi .sge (floorDivW laneQ 32#32) (broadcast S104x128 3#32)) (denRow l ![3, 0, 0] slices_S4x104x1_o3_0_0_S1x104x1)
    (select (cmpi .sge (floorDivW laneQ 32#32) (broadcast S104x128 2#32)) (denRow l ![2, 0, 0] slices_S4x104x1_o2_0_0_S1x104x1)
      (select (cmpi .sge (floorDivW laneQ 32#32) (broadcast S104x128 1#32)) (denRow l ![1, 0, 0] slices_S4x104x1_o1_0_0_S1x104x1)
        (denRow l ![0, 0, 0] slices_S4x104x1_o0_0_0_S1x104x1)))

/-- The four heads' products of the first group, over their row sums: the block's first 128 channels. -/
def group0F (codes : FVec F S128x1024 .fp8e4m3) (wts : FVec F S8x1024 .f32) (kb : Vec F S1x128x1024 .fp8e4m3) (lhs : Vec F S416x256 .bf16)
    (v0 v1 v2 v3 : Vec F S1x32x1024 .fp8e4m3) (s0 s1 s2 s3 : Vec F S1x1x1024 .f32) : FVec F S104x128 .f32 :=
  divf (k0_pay55 (k0_pay50 codes wts kb lhs) (k0_pay51 (k0_pay50 codes wts kb lhs) v0 s0) (k0_pay52 (k0_pay50 codes wts kb lhs) v1 s1)
    (k0_pay53 (k0_pay50 codes wts kb lhs) v2 s2) (k0_pay54 v3) s3) (denF (k0_pay49 codes wts kb lhs))

/-- The four heads' products of the second group, over their row sums: the block's last 128 channels. -/
def group1F (codes : FVec F S128x1024 .fp8e4m3) (wts : FVec F S8x1024 .f32) (kb : Vec F S1x128x1024 .fp8e4m3) (lhs : Vec F S416x256 .bf16)
    (v0 v1 v2 v3 : Vec F S1x32x1024 .fp8e4m3) (s0 s1 s2 s3 : Vec F S1x1x1024 .f32) : FVec F S104x128 .f32 :=
  divf (k0_pay77 (k0_pay73 codes wts kb lhs) (k0_pay74 codes wts kb lhs v0 s0) (k0_pay75 v1 s1) (k0_pay76 codes wts kb lhs) (constant S32x104 .f32 0x00000000#32) v2 s2 v3 s3)
    (denF (k0_pay72 codes wts kb lhs))

/-- The block's rows, both groups side by side. -/
def bothF (a b : FVec F S104x128 .f32) : FVec F S104x1x256 .f32 :=
  shapeCast S104x1x256 (concatenate S104x256 1 [⟨S104x128, a⟩, ⟨S104x128, b⟩] concatenates_S104x128_S104x128_S104x256_d1) shapeCasts_S104x256_S104x1x256

/-- The left operand's scratch with the mask diagonal written into its right half. -/
def eyed (xs : Vec F S416x256 .bf16) : Vec F S416x256 .bf16 := VecWindow.put xs ![0, 128] S416x128.size k0_pay3
/-- The left operand of the first group: its left half stored over what the scratch held. -/
def left0 (x0 : Vec F S1x256x100 .bf16) (xs : Vec F S416x256 .bf16) : Vec F S416x256 .bf16 :=
  VecWindow.put xs ![0, 0] S416x128.size (lhsF (k0_pay35 (View.ld x0 (Rect.unit (s := S1x256x100) ![0, 0, 0] S1x256x100.size inb_S1x256x100_S1x256x100_0_0_0))))
/-- The left operand of the second group. -/
def left1 (x0 : Vec F S1x256x100 .bf16) (xs : Vec F S416x256 .bf16) : Vec F S416x256 .bf16 :=
  VecWindow.put (left0 x0 xs) ![0, 0] S416x128.size (lhsF (k0_pay64 (k0_pay34 (View.ld x0 (Rect.unit (s := S1x256x100) ![0, 0, 0] S1x256x100.size inb_S1x256x100_S1x256x100_0_0_0)))))

/-- What one point computes from its blocks, `l0` and `l1` being the two groups' left operands. -/
def blockF (x1 : Vec F S1x256x1024 .fp8e4m3) (x2 : Vec F S1x8x1024 .f32) (x3 : Vec F S1x256x1024 .fp8e4m3) (x4 : Vec F S1x8x1024 .f32) (x5 : Vec F S1x32x100 .i32)
    (l0 l1 : Vec F S416x256 .bf16) : FVec F S104x1x256 .f32 :=
  bothF
    (group0F (codesF (View.ld x5 (Rect.unit (s := S1x32x100) ![0, 0, 0] S1x32x100.size inb_S1x32x100_S1x32x100_0_0_0))) (k0_pay33 (View.ld x2 (Rect.unit (s := S1x8x1024) ![0, 0, 0] S1x8x1024.size inb_S1x8x1024_S1x8x1024_0_0_0)))
      (View.ld x1 (Rect.unit (s := S1x256x1024) ![0, 0, 0] S1x128x1024.size inb_S1x256x1024_S1x128x1024_0_0_0))
      (View.ld l0 (Rect.unit (s := S416x256) ![0, 0] S416x256.size inb_S416x256_S416x256_0_0))
      (View.ld x3 (Rect.unit (s := S1x256x1024) ![0, 0, 0] S1x32x1024.size inb_S1x256x1024_S1x32x1024_0_0_0))
      (View.ld x3 (Rect.unit (s := S1x256x1024) ![0, 32, 0] S1x32x1024.size inb_S1x256x1024_S1x32x1024_0_32_0))
      (View.ld x3 (Rect.unit (s := S1x256x1024) ![0, 64, 0] S1x32x1024.size inb_S1x256x1024_S1x32x1024_0_64_0))
      (View.ld x3 (Rect.unit (s := S1x256x1024) ![0, 96, 0] S1x32x1024.size inb_S1x256x1024_S1x32x1024_0_96_0))
      (View.ld x4 (Rect.unit (s := S1x8x1024) ![0, 0, 0] S1x1x1024.size inb_S1x8x1024_S1x1x1024_0_0_0))
      (View.ld x4 (Rect.unit (s := S1x8x1024) ![0, 1, 0] S1x1x1024.size inb_S1x8x1024_S1x1x1024_0_1_0))
      (View.ld x4 (Rect.unit (s := S1x8x1024) ![0, 2, 0] S1x1x1024.size inb_S1x8x1024_S1x1x1024_0_2_0))
      (View.ld x4 (Rect.unit (s := S1x8x1024) ![0, 3, 0] S1x1x1024.size inb_S1x8x1024_S1x1x1024_0_3_0)))
    (group1F (codesF (View.ld x5 (Rect.unit (s := S1x32x100) ![0, 0, 0] S1x32x100.size inb_S1x32x100_S1x32x100_0_0_0))) (k0_pay33 (View.ld x2 (Rect.unit (s := S1x8x1024) ![0, 0, 0] S1x8x1024.size inb_S1x8x1024_S1x8x1024_0_0_0)))
      (View.ld x1 (Rect.unit (s := S1x256x1024) ![0, 128, 0] S1x128x1024.size inb_S1x256x1024_S1x128x1024_0_128_0))
      (View.ld l1 (Rect.unit (s := S416x256) ![0, 0] S416x256.size inb_S416x256_S416x256_0_0))
      (View.ld x3 (Rect.unit (s := S1x256x1024) ![0, 128, 0] S1x32x1024.size inb_S1x256x1024_S1x32x1024_0_128_0))
      (View.ld x3 (Rect.unit (s := S1x256x1024) ![0, 160, 0] S1x32x1024.size inb_S1x256x1024_S1x32x1024_0_160_0))
      (View.ld x3 (Rect.unit (s := S1x256x1024) ![0, 192, 0] S1x32x1024.size inb_S1x256x1024_S1x32x1024_0_192_0))
      (View.ld x3 (Rect.unit (s := S1x256x1024) ![0, 224, 0] S1x32x1024.size inb_S1x256x1024_S1x32x1024_0_224_0))
      (View.ld x4 (Rect.unit (s := S1x8x1024) ![0, 4, 0] S1x1x1024.size inb_S1x8x1024_S1x1x1024_0_4_0))
      (View.ld x4 (Rect.unit (s := S1x8x1024) ![0, 5, 0] S1x1x1024.size inb_S1x8x1024_S1x1x1024_0_5_0))
      (View.ld x4 (Rect.unit (s := S1x8x1024) ![0, 6, 0] S1x1x1024.size inb_S1x8x1024_S1x1x1024_0_6_0))
      (View.ld x4 (Rect.unit (s := S1x8x1024) ![0, 7, 0] S1x1x1024.size inb_S1x8x1024_S1x1x1024_0_7_0)))

/-- The second scratch after a point: its slot holds the point's rows. -/
def slotted (i : grid0.Coords) (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32)
    (xs : Vec F S416x256 .bf16) (ys : Vec F S104x8x256 .f32) : Vec F S104x8x256 .f32 :=
  VecWindow.put ys (k0_off1 i) S104x1x256.size (blockF x1 x2 x3 x4 x5 (left0 x0 xs) (left1 x0 xs))

/-- The block written back at the end of a group of eight: the second scratch's first hundred rows. -/
def flushed (ys : Vec F S104x8x256 .f32) : FVec F S100x8x256 .bf16 :=
  k0_pay2 (View.ld ys (Rect.unit (s := S104x8x256) ![0, 0, 0] S100x8x256.size inb_S104x8x256_S100x8x256_0_0_0))

end Cert.KernelIdeal.Gen
end
-- ==== Proof.Attention.Pieces.lean ====
/- What the three cases of the body leave in the output block and in the two scratch buffers, as payloads of the input blocks. -/
module

public import proofs.«01_k».proof.Proof.Attention.RunC
public import proofs.«01_k».proof.Proof.Attention.Block

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- With the diagonal written, nothing of what the scratch held before remains. -/
theorem left0_eyed (x0 : Vec F S1x256x100 .bf16) (a b : Vec F S416x256 .bf16) : left0 x0 (eyed a) = left0 x0 (eyed b) := by
  funext y
  have h0 : (y 0).val < 416 := (y 0).isLt
  have h1 : (y 1).val < 256 := (y 1).isLt
  unfold left0 eyed VecWindow.put
  by_cases h : ∀ a : Fin 2, (![0, 0] : Fin 2 → ℕ) a ≤ (y a).val ∧ (y a).val < (![0, 0] : Fin 2 → ℕ) a + S416x128.size a
  · rw [dif_pos h, dif_pos h]
  · rw [dif_neg h, dif_neg h]
    have h' : ∀ a : Fin 2, (![0, 128] : Fin 2 → ℕ) a ≤ (y a).val ∧ (y a).val < (![0, 128] : Fin 2 → ℕ) a + S416x128.size a := by
      rw [Fin.forall_fin_two] at h ⊢
      change ¬((0 ≤ (y 0).val ∧ (y 0).val < 0 + 416) ∧ (0 ≤ (y 1).val ∧ (y 1).val < 0 + 128)) at h
      change (0 ≤ (y 0).val ∧ (y 0).val < 0 + 416) ∧ (128 ≤ (y 1).val ∧ (y 1).val < 128 + 128)
      omega
    rw [dif_pos h', dif_pos h']

/-- The same of the second group's. -/
theorem left1_eyed (x0 : Vec F S1x256x100 .bf16) (a b : Vec F S416x256 .bf16) : left1 x0 (eyed a) = left1 x0 (eyed b) := by
  unfold left1
  rw [left0_eyed x0 a b]

/-- The first scratch after case A. -/
theorem runA_s0 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    arg8.view.read (Elt F) (arg8.view.writes (Elt F) (harg8.unread xs0) (runA c i arg1 harg1 arg2 harg2 arg3 harg3 arg4 harg4 arg5 harg5 arg6 harg6 arg7 harg7 arg8 harg8 arg9 harg9 hc0 hc1 x0 x1 x2 x3 x4 x5 x6 xs0 xs1).1) = left1 x0 (eyed xs0) := by
  have h : (runA c i arg1 harg1 arg2 harg2 arg3 harg3 arg4 harg4 arg5 harg5 arg6 harg6 arg7 harg7 arg8 harg8 arg9 harg9 hc0 hc1 x0 x1 x2 x3 x4 x5 x6 xs0 xs1).1 = [⟨Rect.unit (s := S416x256) ![0, 0] S416x128.size inb_S416x256_S416x128_0_0, lhsF (k0_pay64 (k0_pay34 (View.ld (arg1.view.read (Elt F) (harg1.unread x0)) (Rect.unit (s := S1x256x100) ![0, 0, 0] S1x256x100.size inb_S1x256x100_S1x256x100_0_0_0))))⟩, ⟨Rect.unit (s := S416x256) ![0, 0] S416x128.size inb_S416x256_S416x128_0_0, lhsF (k0_pay35 (View.ld (arg1.view.read (Elt F) (harg1.unread x0)) (Rect.unit (s := S1x256x100) ![0, 0, 0] S1x256x100.size inb_S1x256x100_S1x256x100_0_0_0)))⟩, ⟨Rect.unit (s := S416x256) ![0, 128] S416x128.size inb_S416x256_S416x128_0_128, k0_pay3⟩] := rfl
  rw [h]
  simp only [View.read_writes_cons_put _ _ _ _ _ rfl, View.writes_nil, harg8.read_unread, harg1.read_unread, left1, left0, eyed]

/-- The second scratch after case A. -/
theorem runA_s1 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    arg9.view.read (Elt F) (arg9.view.writes (Elt F) (harg9.unread xs1) (runA c i arg1 harg1 arg2 harg2 arg3 harg3 arg4 harg4 arg5 harg5 arg6 harg6 arg7 harg7 arg8 harg8 arg9 harg9 hc0 hc1 x0 x1 x2 x3 x4 x5 x6 xs0 xs1).2.1) = slotted i x0 x1 x2 x3 x4 x5 (eyed xs0) xs1 := by
  have h : (runA c i arg1 harg1 arg2 harg2 arg3 harg3 arg4 harg4 arg5 harg5 arg6 harg6 arg7 harg7 arg8 harg8 arg9 harg9 hc0 hc1 x0 x1 x2 x3 x4 x5 x6 xs0 xs1).2.1 = [⟨Rect.unit (s := S104x8x256) (k0_off1 i) S104x1x256.size (k0_off1_inb i), blockF (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg8.view.read (Elt F) (arg8.view.writes (Elt F) arg8.view.junk [⟨Rect.unit (s := S416x256) ![0, 0] S416x128.size inb_S416x256_S416x128_0_0, lhsF (k0_pay35 (View.ld (arg1.view.read (Elt F) (harg1.unread x0)) (Rect.unit (s := S1x256x100) ![0, 0, 0] S1x256x100.size inb_S1x256x100_S1x256x100_0_0_0)))⟩, ⟨Rect.unit (s := S416x256) ![0, 128] S416x128.size inb_S416x256_S416x128_0_128, k0_pay3⟩])) (arg8.view.read (Elt F) (arg8.view.writes (Elt F) arg8.view.junk [⟨Rect.unit (s := S416x256) ![0, 0] S416x128.size inb_S416x256_S416x128_0_0, lhsF (k0_pay64 (k0_pay34 (View.ld (arg1.view.read (Elt F) (harg1.unread x0)) (Rect.unit (s := S1x256x100) ![0, 0, 0] S1x256x100.size inb_S1x256x100_S1x256x100_0_0_0))))⟩, ⟨Rect.unit (s := S416x256) ![0, 0] S416x128.size inb_S416x256_S416x128_0_0, lhsF (k0_pay35 (View.ld (arg1.view.read (Elt F) (harg1.unread x0)) (Rect.unit (s := S1x256x100) ![0, 0, 0] S1x256x100.size inb_S1x256x100_S1x256x100_0_0_0)))⟩, ⟨Rect.unit (s := S416x256) ![0, 128] S416x128.size inb_S416x256_S416x128_0_128, k0_pay3⟩]))⟩] := rfl
  rw [h]
  simp only [View.read_writes_cons_put _ _ _ _ _ rfl, View.writes_nil, harg9.read_unread, harg1.read_unread, harg2.read_unread, harg3.read_unread, harg4.read_unread, harg5.read_unread, harg6.read_unread]
  have e0 := left0_eyed x0 (arg8.view.read (Elt F) arg8.view.junk) xs0
  have e1 := left1_eyed x0 (arg8.view.read (Elt F) arg8.view.junk) xs0
  simp only [left1, left0, eyed] at e0 e1
  simp only [e0, e1, slotted, left1, left0, eyed]

/-- The first scratch after case B. -/
theorem runB_s0 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    arg8.view.read (Elt F) (arg8.view.writes (Elt F) (harg8.unread xs0) (runB c i arg1 harg1 arg2 harg2 arg3 harg3 arg4 harg4 arg5 harg5 arg6 harg6 arg7 harg7 arg8 harg8 arg9 harg9 hc0 hc1 x0 x1 x2 x3 x4 x5 x6 xs0 xs1).1) = left1 x0 xs0 := by
  have h : (runB c i arg1 harg1 arg2 harg2 arg3 harg3 arg4 harg4 arg5 harg5 arg6 harg6 arg7 harg7 arg8 harg8 arg9 harg9 hc0 hc1 x0 x1 x2 x3 x4 x5 x6 xs0 xs1).1 = [⟨Rect.unit (s := S416x256) ![0, 0] S416x128.size inb_S416x256_S416x128_0_0, lhsF (k0_pay64 (k0_pay34 (View.ld (arg1.view.read (Elt F) (harg1.unread x0)) (Rect.unit (s := S1x256x100) ![0, 0, 0] S1x256x100.size inb_S1x256x100_S1x256x100_0_0_0))))⟩, ⟨Rect.unit (s := S416x256) ![0, 0] S416x128.size inb_S416x256_S416x128_0_0, lhsF (k0_pay35 (View.ld (arg1.view.read (Elt F) (harg1.unread x0)) (Rect.unit (s := S1x256x100) ![0, 0, 0] S1x256x100.size inb_S1x256x100_S1x256x100_0_0_0)))⟩] := rfl
  rw [h]
  simp only [View.read_writes_cons_put _ _ _ _ _ rfl, View.writes_nil, harg8.read_unread, harg1.read_unread, left1, left0, eyed]

/-- The second scratch after case B. -/
theorem runB_s1 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : ¬cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    arg9.view.read (Elt F) (arg9.view.writes (Elt F) (harg9.unread xs1) (runB c i arg1 harg1 arg2 harg2 arg3 harg3 arg4 harg4 arg5 harg5 arg6 harg6 arg7 harg7 arg8 harg8 arg9 harg9 hc0 hc1 x0 x1 x2 x3 x4 x5 x6 xs0 xs1).2.1) = slotted i x0 x1 x2 x3 x4 x5 xs0 xs1 := by
  have h : (runB c i arg1 harg1 arg2 harg2 arg3 harg3 arg4 harg4 arg5 harg5 arg6 harg6 arg7 harg7 arg8 harg8 arg9 harg9 hc0 hc1 x0 x1 x2 x3 x4 x5 x6 xs0 xs1).2.1 = [⟨Rect.unit (s := S104x8x256) (k0_off1 i) S104x1x256.size (k0_off1_inb i), blockF (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg8.view.read (Elt F) (arg8.view.writes (Elt F) (harg8.unread xs0) [⟨Rect.unit (s := S416x256) ![0, 0] S416x128.size inb_S416x256_S416x128_0_0, lhsF (k0_pay35 (View.ld (arg1.view.read (Elt F) (harg1.unread x0)) (Rect.unit (s := S1x256x100) ![0, 0, 0] S1x256x100.size inb_S1x256x100_S1x256x100_0_0_0)))⟩])) (arg8.view.read (Elt F) (arg8.view.writes (Elt F) (harg8.unread xs0) [⟨Rect.unit (s := S416x256) ![0, 0] S416x128.size inb_S416x256_S416x128_0_0, lhsF (k0_pay64 (k0_pay34 (View.ld (arg1.view.read (Elt F) (harg1.unread x0)) (Rect.unit (s := S1x256x100) ![0, 0, 0] S1x256x100.size inb_S1x256x100_S1x256x100_0_0_0))))⟩, ⟨Rect.unit (s := S416x256) ![0, 0] S416x128.size inb_S416x256_S416x128_0_0, lhsF (k0_pay35 (View.ld (arg1.view.read (Elt F) (harg1.unread x0)) (Rect.unit (s := S1x256x100) ![0, 0, 0] S1x256x100.size inb_S1x256x100_S1x256x100_0_0_0)))⟩]))⟩] := rfl
  rw [h]
  simp only [View.read_writes_cons_put _ _ _ _ _ rfl, View.writes_nil, harg8.read_unread, harg9.read_unread, harg1.read_unread, harg2.read_unread, harg3.read_unread, harg4.read_unread, harg5.read_unread, harg6.read_unread, slotted, left1, left0, eyed]

/-- The first scratch after case C. -/
theorem runC_s0 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    arg8.view.read (Elt F) (arg8.view.writes (Elt F) (harg8.unread xs0) (runC c i arg1 harg1 arg2 harg2 arg3 harg3 arg4 harg4 arg5 harg5 arg6 harg6 arg7 harg7 arg8 harg8 arg9 harg9 hc0 hc1 x0 x1 x2 x3 x4 x5 x6 xs0 xs1).1) = left1 x0 xs0 := by
  have h : (runC c i arg1 harg1 arg2 harg2 arg3 harg3 arg4 harg4 arg5 harg5 arg6 harg6 arg7 harg7 arg8 harg8 arg9 harg9 hc0 hc1 x0 x1 x2 x3 x4 x5 x6 xs0 xs1).1 = [⟨Rect.unit (s := S416x256) ![0, 0] S416x128.size inb_S416x256_S416x128_0_0, lhsF (k0_pay64 (k0_pay34 (View.ld (arg1.view.read (Elt F) (harg1.unread x0)) (Rect.unit (s := S1x256x100) ![0, 0, 0] S1x256x100.size inb_S1x256x100_S1x256x100_0_0_0))))⟩, ⟨Rect.unit (s := S416x256) ![0, 0] S416x128.size inb_S416x256_S416x128_0_0, lhsF (k0_pay35 (View.ld (arg1.view.read (Elt F) (harg1.unread x0)) (Rect.unit (s := S1x256x100) ![0, 0, 0] S1x256x100.size inb_S1x256x100_S1x256x100_0_0_0)))⟩] := rfl
  rw [h]
  simp only [View.read_writes_cons_put _ _ _ _ _ rfl, View.writes_nil, harg8.read_unread, harg1.read_unread, left1, left0, eyed]

/-- The second scratch after case C. -/
theorem runC_s1 (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    arg9.view.read (Elt F) (arg9.view.writes (Elt F) (harg9.unread xs1) (runC c i arg1 harg1 arg2 harg2 arg3 harg3 arg4 harg4 arg5 harg5 arg6 harg6 arg7 harg7 arg8 harg8 arg9 harg9 hc0 hc1 x0 x1 x2 x3 x4 x5 x6 xs0 xs1).2.1) = slotted i x0 x1 x2 x3 x4 x5 xs0 xs1 := by
  have h : (runC c i arg1 harg1 arg2 harg2 arg3 harg3 arg4 harg4 arg5 harg5 arg6 harg6 arg7 harg7 arg8 harg8 arg9 harg9 hc0 hc1 x0 x1 x2 x3 x4 x5 x6 xs0 xs1).2.1 = [⟨Rect.unit (s := S104x8x256) (k0_off1 i) S104x1x256.size (k0_off1_inb i), blockF (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg8.view.read (Elt F) (arg8.view.writes (Elt F) (harg8.unread xs0) [⟨Rect.unit (s := S416x256) ![0, 0] S416x128.size inb_S416x256_S416x128_0_0, lhsF (k0_pay35 (View.ld (arg1.view.read (Elt F) (harg1.unread x0)) (Rect.unit (s := S1x256x100) ![0, 0, 0] S1x256x100.size inb_S1x256x100_S1x256x100_0_0_0)))⟩])) (arg8.view.read (Elt F) (arg8.view.writes (Elt F) (harg8.unread xs0) [⟨Rect.unit (s := S416x256) ![0, 0] S416x128.size inb_S416x256_S416x128_0_0, lhsF (k0_pay64 (k0_pay34 (View.ld (arg1.view.read (Elt F) (harg1.unread x0)) (Rect.unit (s := S1x256x100) ![0, 0, 0] S1x256x100.size inb_S1x256x100_S1x256x100_0_0_0))))⟩, ⟨Rect.unit (s := S416x256) ![0, 0] S416x128.size inb_S416x256_S416x128_0_0, lhsF (k0_pay35 (View.ld (arg1.view.read (Elt F) (harg1.unread x0)) (Rect.unit (s := S1x256x100) ![0, 0, 0] S1x256x100.size inb_S1x256x100_S1x256x100_0_0_0)))⟩]))⟩] := rfl
  rw [h]
  simp only [View.read_writes_cons_put _ _ _ _ _ rfl, View.writes_nil, harg8.read_unread, harg9.read_unread, harg1.read_unread, harg2.read_unread, harg3.read_unread, harg4.read_unread, harg5.read_unread, harg6.read_unread, slotted, left1, left0, eyed]

/-- The output block after case C. -/
theorem runC_o (c : Dev nD) (i : grid0.Coords) (arg1 : Memref sig .tc .vmem S1x256x100 .bf16) (harg1 : arg1.IsWhole) (arg2 : Memref sig .tc .vmem S1x256x1024 .fp8e4m3) (harg2 : arg2.IsWhole) (arg3 : Memref sig .tc .vmem S1x8x1024 .f32) (harg3 : arg3.IsWhole) (arg4 : Memref sig .tc .vmem S1x256x1024 .fp8e4m3) (harg4 : arg4.IsWhole) (arg5 : Memref sig .tc .vmem S1x8x1024 .f32) (harg5 : arg5.IsWhole) (arg6 : Memref sig .tc .vmem S1x32x100 .i32) (harg6 : arg6.IsWhole) (arg7 : Memref sig .tc .vmem S100x8x256 .bf16) (harg7 : arg7.IsWhole) (arg8 : Memref sig .tc .vmem S416x256 .bf16) (harg8 : arg8.IsWhole) (arg9 : Memref sig .tc .vmem S104x8x256 .f32) (harg9 : arg9.IsWhole) (hc0 : ¬cond0_0 i) (hc1 : cond0_1 i)
    (x0 : Vec F S1x256x100 .bf16) (x1 : Vec F S1x256x1024 .fp8e4m3) (x2 : Vec F S1x8x1024 .f32) (x3 : Vec F S1x256x1024 .fp8e4m3) (x4 : Vec F S1x8x1024 .f32) (x5 : Vec F S1x32x100 .i32) (x6 : Vec F S100x8x256 .bf16) (xs0 : Vec F S416x256 .bf16) (xs1 : Vec F S104x8x256 .f32) :
    arg7.view.read (Elt F) (arg7.view.writes (Elt F) (harg7.unread x6) (runC c i arg1 harg1 arg2 harg2 arg3 harg3 arg4 harg4 arg5 harg5 arg6 harg6 arg7 harg7 arg8 harg8 arg9 harg9 hc0 hc1 x0 x1 x2 x3 x4 x5 x6 xs0 xs1).2.2.1) = flushed (slotted i x0 x1 x2 x3 x4 x5 xs0 xs1) := by
  have h : (runC c i arg1 harg1 arg2 harg2 arg3 harg3 arg4 harg4 arg5 harg5 arg6 harg6 arg7 harg7 arg8 harg8 arg9 harg9 hc0 hc1 x0 x1 x2 x3 x4 x5 x6 xs0 xs1).2.2.1 = [⟨Rect.unit (s := S100x8x256) ![0, 0, 0] S100x8x256.size inb_S100x8x256_S100x8x256_0_0_0,
      flushed (arg9.view.read (Elt F) (arg9.view.writes (Elt F) (harg9.unread xs1) (runC c i arg1 harg1 arg2 harg2 arg3 harg3 arg4 harg4 arg5 harg5 arg6 harg6 arg7 harg7 arg8 harg8 arg9 harg9 hc0 hc1 x0 x1 x2 x3 x4 x5 x6 xs0 xs1).2.1))⟩] := rfl
  rw [h, runC_s1]
  exact View.read_writes_full _ _ _ _ _

end Cert.KernelIdeal.Gen
end
-- ==== Proof.Attention.Values.lean ====
/- What the scratch buffers and the output hold point by point, and with it the idealized kernel's run and frame. -/
module

public import proofs.«01_k».proof.Proof.Attention.Pieces
public import Idealize.ShloMosaic.Lib.Pointwise
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch and the output hold -/

/-- Some contents of the left operand's scratch (which, is nowhere used). -/
def someLeft : Vec F S416x256 .bf16 := fun _ => (FloatOps.ofBits .bf16 0#16 : F .bf16)

/-- Over what an earlier point left there, the first group's left operand is what it is over the diagonal alone. -/
theorem left0_left1 (x x' : Vec F S1x256x100 .bf16) (xs : Vec F S416x256 .bf16) : left0 x (left1 x' xs) = left0 x xs := by
  unfold left1 left0
  rw [VecWindow.put_put_same, VecWindow.put_put_same]
/-- The same of the second group's. -/
theorem left1_left1 (x x' : Vec F S1x256x100 .bf16) (xs : Vec F S416x256 .bf16) : left1 x (left1 x' xs) = left1 x xs := by
  rw [left1, left0_left1]; rfl

/-- The rows point `t` computes from its blocks. -/
def pointRows (c : Dev nD) (t : Fin cfg0.N) : FVec F S104x1x256 .f32 :=
  blockF (iblk m c 1 t) (iblk m c 2 t) (iblk m c 3 t) (iblk m c 4 t) (iblk m c 5 t) (left0 (iblk m c 0 t) (eyed someLeft)) (left1 (iblk m c 0 t) (eyed someLeft))

/-- The point of slot `s` in point `n`'s group of eight. -/
def groupPt (n : ℕ) (hn : n < 40) (s : Fin 8) : Fin cfg0.N :=
  ⟨8 * (n / 8) + s.val, by have := s.isLt; have hN : cfg0.N = 40 := N_0; omega⟩

/-- The block written back at the end of point `t`'s group: slot by slot, the points' first hundred rows. -/
def groupOut (c : Dev nD) (t : Fin cfg0.N) : Vec F S100x8x256 .bf16 :=
  k0_pay2 (fun z : S100x8x256.Idx => pointRows m c (groupPt t.val (lt_of_lt_of_eq t.isLt N_0) (z 1)) (ix3 (Fin.castLE (by decide : 100 ≤ 104) (z 0)) (0 : Fin 1) (z 2)))

/-- The slots of the second scratch filled before point `n`. -/
def FilledBefore (c : Dev nD) (n : ℕ) (y : Vec F S104x8x256 .f32) : Prop :=
  ∀ (hn : n < 40) (s : Fin 8), s.val < n % 8 → ∀ (r : Fin 104) (ch : Fin 256), y (ix3 r s ch) = pointRows m c (groupPt n hn s) (ix3 r (0 : Fin 1) ch)

/-- The slot a point fills is its place in its group of eight — decided over the grid. -/
theorem off1_eq : ∀ t : Fin cfg0.N, k0_off1 (grid0.coords t) 0 = 0 ∧ k0_off1 (grid0.coords t) 1 = t.val % 8 ∧ k0_off1 (grid0.coords t) 2 = 0 :=
  (by decide +kernel : ∀ t : Fin grid0.N, k0_off1 (grid0.coords t) 0 = 0 ∧ k0_off1 (grid0.coords t) 1 = t.val % 8 ∧ k0_off1 (grid0.coords t) 2 = 0)

/-- The second scratch with a slot put, at an index. -/
theorem put_slot (t : Fin cfg0.N) (ys : Vec F S104x8x256 .f32) (w : FVec F S104x1x256 .f32) (r : Fin 104) (s : Fin 8) (ch : Fin 256) :
    VecWindow.put ys (k0_off1 (grid0.coords t)) S104x1x256.size w (ix3 r s ch) = if s.val = t.val % 8 then w (ix3 r (0 : Fin 1) ch) else ys (ix3 r s ch) := by
  obtain ⟨o0, o1, o2⟩ := off1_eq t
  have hr := r.isLt
  have hs := s.isLt
  have hc := ch.isLt
  unfold VecWindow.put
  by_cases h : s.val = t.val % 8
  · have hh : ∀ a : Fin 3, k0_off1 (grid0.coords t) a ≤ (ix3 r s ch a).val ∧ (ix3 r s ch a).val < k0_off1 (grid0.coords t) a + S104x1x256.size a := by
      rw [Fin.forall_fin_succ, Fin.forall_fin_two]
      change (k0_off1 (grid0.coords t) 0 ≤ r.val ∧ r.val < k0_off1 (grid0.coords t) 0 + 104) ∧ (k0_off1 (grid0.coords t) 1 ≤ s.val ∧ s.val < k0_off1 (grid0.coords t) 1 + 1) ∧ (k0_off1 (grid0.coords t) 2 ≤ ch.val ∧ ch.val < k0_off1 (grid0.coords t) 2 + 256)
      omega
    rw [if_pos h, dif_pos hh]
    congr 1
    funext a
    apply Fin.ext
    rw [Rect.unitLocal_val]
    revert a
    rw [Fin.forall_fin_succ, Fin.forall_fin_two]
    change r.val - k0_off1 (grid0.coords t) 0 = r.val ∧ s.val - k0_off1 (grid0.coords t) 1 = 0 ∧ ch.val - k0_off1 (grid0.coords t) 2 = ch.val
    omega
  · rw [if_neg h, dif_neg]
    intro hh
    have := hh (1 : Fin 3)
    change k0_off1 (grid0.coords t) 1 ≤ s.val ∧ s.val < k0_off1 (grid0.coords t) 1 + 1 at this
    omega

/-- After point `t`, the slots up to its own hold their points' rows. -/
theorem filled_after (c : Dev nD) (t : Fin cfg0.N) (y : Vec F S104x8x256 .f32) (hy : FilledBefore m c t.val y) (s : Fin 8) (hs : s.val ≤ t.val % 8) (r : Fin 104) (ch : Fin 256) :
    VecWindow.put y (k0_off1 (grid0.coords t)) S104x1x256.size (pointRows m c t) (ix3 r s ch) = pointRows m c (groupPt t.val (lt_of_lt_of_eq t.isLt N_0) s) (ix3 r (0 : Fin 1) ch) := by
  rw [put_slot]
  by_cases h : s.val = t.val % 8
  · rw [if_pos h]
    have e : groupPt t.val (lt_of_lt_of_eq t.isLt N_0) s = t := by
      apply Fin.ext; show 8 * (t.val / 8) + s.val = t.val; omega
    rw [e]
  · rw [if_neg h]
    exact hy _ s (by omega) r ch

/-- So the slots before the next point's are filled. -/
theorem filled_next (c : Dev nD) (t : Fin cfg0.N) (y : Vec F S104x8x256 .f32) (hy : FilledBefore m c t.val y) :
    FilledBefore m c (t.val + 1) (VecWindow.put y (k0_off1 (grid0.coords t)) S104x1x256.size (pointRows m c t)) := by
  intro hn s hs r ch
  rw [filled_after m c t y hy s (by omega)]
  congr 1
  apply Fin.ext
  show 8 * (t.val / 8) + s.val = 8 * ((t.val + 1) / 8) + s.val
  omega

/-- At the end of a group of eight the block written back is the group's. -/
theorem flushed_eq (c : Dev nD) (t : Fin cfg0.N) (y : Vec F S104x8x256 .f32) (hy : FilledBefore m c t.val y) (h7 : t.val % 8 = 7) :
    flushed (VecWindow.put y (k0_off1 (grid0.coords t)) S104x1x256.size (pointRows m c t)) = groupOut m c t := by
  unfold flushed groupOut
  congr 1
  funext z
  have e : (Rect.unit (s := S104x8x256) ![0, 0, 0] S100x8x256.size inb_S104x8x256_S100x8x256_0_0_0).idx z = ix3 (Fin.castLE (by decide : 100 ≤ 104) (z 0)) (z 1) (z 2) := by
    funext a
    apply Fin.ext
    revert a
    show ∀ a : Fin 3, _
    rw [Fin.forall_fin_succ, Fin.forall_fin_two]
    change 0 + 1 * (z 0).val = (z 0).val ∧ 0 + 1 * (z 1).val = (z 1).val ∧ 0 + 1 * (z 2).val = (z 2).val
    omega
  have hz : (z 1).val < 8 := (z 1).isLt
  exact (congrArg _ e).trans (filled_after m c t y hy (z 1) (by omega) _ _)

/-! ## The invariant and the proof data -/

/-- Before point `n`: the first scratch as the point before left it, the slots of the second filled so far at their points' rows, the generator register at some state. -/
def PhiV (c : Dev nD) : (n : ℕ) → n ≤ cfg0.N → sProp 𝕄
  | 0, _ => Pipeline.ΦA spec0 c
  | n + 1, hn => iprop(iprop(owns (c : Thread nD τ) scM0_0 fullShare (left1 (iblk m c 0 ⟨n, hn⟩) (eyed someLeft)) ∗ (∃ y, ⌜FilledBefore m c (n + 1) y⌝ ∗ owns (c : Thread nD τ) scM0_1 fullShare y)) ∗ (∃ r, prngReg c r))

theorem PhiV_zero (c : Dev nD) (n : ℕ) (h : n ≤ cfg0.N) (hz : n = 0) : PhiV m c n h = Pipeline.ΦA spec0 c := by
  subst hz; rfl

theorem PhiV_succ (c : Dev nD) (n : ℕ) (hn : n < cfg0.N) :
    PhiV m c (n + 1) hn = iprop(iprop(owns (c : Thread nD τ) scM0_0 fullShare (left1 (iblk m c 0 ⟨n, hn⟩) (eyed someLeft)) ∗ (∃ y, ⌜FilledBefore m c (n + 1) y⌝ ∗ owns (c : Thread nD τ) scM0_1 fullShare y)) ∗ (∃ r, prngReg c r)) := rfl

theorem PhiV_pos (c : Dev nD) (n : ℕ) (h : n ≤ cfg0.N) (hz : n ≠ 0) :
    ∃ x : Vec F S1x256x100 .bf16, PhiV m c n h = iprop(iprop(owns (c : Thread nD τ) scM0_0 fullShare (left1 x (eyed someLeft)) ∗ (∃ y, ⌜FilledBefore m c n y⌝ ∗ owns (c : Thread nD τ) scM0_1 fullShare y)) ∗ (∃ r, prngReg c r)) := by
  cases n with
  | zero => exact absurd rfl hz
  | succ n => exact ⟨_, rfl⟩

/-- The proof data of the one pipeline on core `c`: the arrays as the region finds them; after the body each input's buffer at
    its block and the output's at its group's block; the invariant `PhiV`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => groupOut m c t
  Φ t := PhiV m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiV_castSucc (c : Dev nD) (t : Fin cfg0.N) :
    (dats m 0 c).Φ t.castSucc = PhiV m c t.val (Nat.le_of_lt t.isLt) := by
  dsimp only [dats]; exact Pipeline.Dat.Φ_castSucc (PhiV m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = groupOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The second scratch after the first point, over whatever the first held. -/
theorem slotted_first (c : Dev nD) (t : Fin cfg0.N) (xs : Vec F S416x256 .bf16) (ys : Vec F S104x8x256 .f32) :
    slotted (grid0.coords t) (iblk m c 0 t) (iblk m c 1 t) (iblk m c 2 t) (iblk m c 3 t) (iblk m c 4 t) (iblk m c 5 t) (eyed xs) ys = VecWindow.put ys (k0_off1 (grid0.coords t)) S104x1x256.size (pointRows m c t) := by
  unfold slotted pointRows
  rw [left0_eyed _ xs someLeft, left1_eyed _ xs someLeft]
/-- The second scratch after a later point. -/
theorem slotted_later (c : Dev nD) (t : Fin cfg0.N) (x : Vec F S1x256x100 .bf16) (ys : Vec F S104x8x256 .f32) :
    slotted (grid0.coords t) (iblk m c 0 t) (iblk m c 1 t) (iblk m c 2 t) (iblk m c 3 t) (iblk m c 4 t) (iblk m c 5 t) (left1 x (eyed someLeft)) ys = VecWindow.put ys (k0_off1 (grid0.coords t)) S104x1x256.size (pointRows m c t) := by
  unfold slotted pointRows
  rw [left0_left1, left1_left1]

set_option maxHeartbeats 9600000 in
/-- The body at any point keeps the invariant: by the case the point is in, from that case's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiV m c (t.val + 1) t.isLt from rfl, PhiV_succ]
  have hN : t.val < 40 := lt_of_lt_of_eq t.isLt (show cfg0.N = 40 from N_0)
  by_cases hz : t.val = 0
  · have h0 : t.val % 40 = 0 := by omega
    have h1 : ¬ t.val % 8 = 7 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6 t h1) (by rw [Bool.eq_false_iff]; exact fun h => h1 ((flush0_6 t).mp h))]
    rw [PhiV_castSucc m c t, PhiV_zero m c _ _ hz, PhiA0_eq]
    iintro ⟨⟨⟨⟨%xs, HS0⟩, ⟨%ys, HS1⟩⟩, Hg⟩, Ho, ⟨%d0, H0⟩, ⟨%d1, H1⟩, ⟨%d2, H2⟩, ⟨%d3, H3⟩, ⟨%d4, H4⟩, ⟨%d5, H5⟩, ⟨%d6, H6⟩⟩
    have hys : FilledBefore m c t.val ys := fun _ s hs => absurd hs (by omega)
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) ((dats m 0 c).before 6 t d6) xs ys).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · unfold owns; iexists _; isplitr
          swap; · iexact HS0
          ipureintro
          exact (runA_s0 ..).trans (left1_eyed _ _ _)
        iexists (VecWindow.put ys (k0_off1 (grid0.coords t)) S104x1x256.size (pointRows m c t))
        isplitr
        · ipureintro; exact filled_next m c t ys hys
        unfold owns; iexists _; isplitr
        swap; · iexact HS1
        ipureintro
        exact (runA_s1 ..).trans (slotted_first m c t _ ys)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  have h0 : ¬ t.val % 40 = 0 := by omega
  by_cases h1 : t.val % 8 = 7
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t h1], after0_6]
    obtain ⟨x, hx⟩ := PhiV_pos m c t.val (Nat.le_of_lt t.isLt) hz
    rw [PhiV_castSucc m c t, hx]
    iintro ⟨⟨⟨HS0, ⟨%ys, %hys, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) ((dats m 0 c).before 6 t d6) (left1 x (eyed someLeft)) ys).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · unfold owns; iexists _; isplitr
          swap; · iexact HS0
          ipureintro
          exact (runC_s0 ..).trans (left1_left1 _ _ _)
        iexists (VecWindow.put ys (k0_off1 (grid0.coords t)) S104x1x256.size (pointRows m c t))
        isplitr
        · ipureintro; exact filled_next m c t ys hys
        unfold owns; iexists _; isplitr
        swap; · iexact HS1
        ipureintro
        exact (runC_s1 ..).trans (slotted_later m c t _ ys)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (runC_o ..).trans ((congrArg flushed (slotted_later m c t _ ys)).trans (flushed_eq m c t ys hys h1))
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6 t h1) (by rw [Bool.eq_false_iff]; exact fun h => h1 ((flush0_6 t).mp h))]
    obtain ⟨x, hx⟩ := PhiV_pos m c t.val (Nat.le_of_lt t.isLt) hz
    rw [PhiV_castSucc m c t, hx]
    iintro ⟨⟨⟨HS0, ⟨%ys, %hys, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) ((dats m 0 c).before 6 t d6) (left1 x (eyed someLeft)) ys).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · unfold owns; iexists _; isplitr
          swap; · iexact HS0
          ipureintro
          exact (runB_s0 ..).trans (left1_left1 _ _ _)
        iexists (VecWindow.put ys (k0_off1 (grid0.coords t)) S104x1x256.size (pointRows m c t))
        isplitr
        · ipureintro; exact filled_next m c t ys hys
        unfold owns; iexists _; isplitr
        swap; · iexact HS1
        ipureintro
        exact (runB_s1 ..).trans (slotted_later m c t _ ys)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiV m c 0 (Nat.zero_le _) from rfl, PhiV_zero m c 0 _ rfl]
  try exact Idealize.SL.BI.Entails.refl _

theorem hout (c : Dev nD) : (dats m 0 c).Φ (Fin.last cfg0.N) ⊢ Pipeline.ΦA spec0 c := by
  have hl : (Fin.last cfg0.N).val ≠ 0 := by rw [Fin.val_last]; have : cfg0.N = 40 := N_0; omega
  obtain ⟨x, hx⟩ := PhiV_pos m c (Fin.last cfg0.N).val (Nat.le_of_lt_succ (Fin.last cfg0.N).isLt) hl
  rw [show (dats m 0 c).Φ (Fin.last cfg0.N) = PhiV m c (Fin.last cfg0.N).val (Nat.le_of_lt_succ (Fin.last cfg0.N).isLt) from rfl, hx, PhiA0_eq]
  iintro ⟨⟨HS0, ⟨%y, %hy, HS1⟩⟩, Hg⟩
  isplitl [HS0 HS1]
  · isplitl [HS0]
    · iexists _; iexact HS0
    iexists _; iexact HS1
  iexact Hg

/-! ## The run and the frame -/

set_option backward.isDefEq.respectTransparency.types false in
set_option maxHeartbeats 800000 in
/-- The launch: every array ends at what the proof data say, every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Attention.Mask.lean ====
/- The mask: the codes that the kernel unpacks from an image's words, read at a query and a pixel. -/
module

public import proofs.«01_k».proof.Proof.Attention.Block
public import Idealize.ShloMosaic.Lib.Pointwise
public import Idealize.ShloMosaic.Lib.BitcastFour

@[expose] public section

set_option maxRecDepth 16384

noncomputable section

namespace Cert.KernelIdeal.Gen

open Idealize.ShloMosaic Idealize.ShloMosaic.TcCoe Idealize.SL.Sem

variable {F : FTy → Type} [FloatOps F] [Named F]

/-! ## The mask codes, at an index -/

theorem floorDiv8 (r : Fin 32) (l : Fin 128) : floorDivW laneW 8#32 (ix2 r l) = BitVec.ofNat 32 (l.val / 8) := by
  unfold floorDivW laneW
  pointwise
  revert l
  decide +kernel

theorem floorMod8 (r : Fin 32) (l : Fin 128) (h : S32x128.Broadcasts S32x128) : floorModW laneW 8#32 h (ix2 r l) = BitVec.ofNat 32 (l.val % 8) := by
  unfold floorModW laneW
  pointwise
  revert l
  decide +kernel

theorem floorDiv32 (r : Fin 104) (l : Fin 128) : floorDivW laneQ 32#32 (ix2 r l) = BitVec.ofNat 32 (l.val / 32) := by
  unfold floorDivW laneQ
  pointwise
  revert l
  decide +kernel

theorem sourceW_at (g : Fin 8) (r : Fin 32) (l : Fin 128) : sourceW (BitVec.ofNat 32 (16 * g.val)) (ix2 r l) = BitVec.ofNat 32 (16 * g.val + l.val / 8) := by
  unfold sourceW
  pointwise [floorDiv8]
  revert l g
  decide +kernel

/-- Thirty-two-bit words read at eight bits: bit `q` of row `a` is bit `8 (a % 4) + q` of word `a / 4` of that lane. -/
theorem bitcast_32_8_getLsbD_ix2 (x : S32x128.Idx → BitVec 32)
    (h : S32x128.Bitcasts 32 S128x128 8) (a : Fin 128) (l : Fin 128) (q : ℕ) (hq : q < 8) (p : Fin 32)
    (hp : p.val = a.val / 4) :
    (bitcast S128x128 8 x h (ix2 a l)).getLsbD q = (x (ix2 p l)).getLsbD (8 * (a.val % 4) + q) := by
  rw [bitcast_getLsbD x h _ q hq (by decide)]
  have hrow : S128x128.row (ix2 a l) = a.val := rfl
  have e1 : (S128x128.row (ix2 a l) * 8 + q) % 32 = 8 * (a.val % 4) + q := by rw [hrow]; omega
  have e2 : (S128x128.row (ix2 a l) * 8 + q) / 32 = p.val := by rw [hrow]; omega
  rw [e1]
  congr 2
  funext c
  match c with
  | ⟨0, _⟩ => exact Fin.ext ((h.srcIdx_row _ _ _ ⟨0, Nat.zero_lt_two⟩ rfl).trans e2)
  | ⟨1, _⟩ => exact Fin.ext (h.srcIdx_other _ _ _ ⟨1, Nat.one_lt_two⟩ (by show ¬ 1 + 2 = 2; omega))

/-- The mask words as the kernel flips them: all zero where the query's words are, otherwise their complement. -/
def maskWords (v4 : Vec F S1x32x100 .i32) : IVec S32x128 32 :=
  have v7 : IVec S32x128 32 := concatenate S32x128 1 [⟨S32x100, shapeCast S32x100 v4 shapeCasts_S1x32x100_S32x100⟩, ⟨S32x28, broadcast S32x28 0#32⟩] concatenates_S32x100_S32x28_S32x128_d1
  have v13 : IVec S128 32 := multiReductionI .maxsi [0] S128 (select (cmpi .ne v7 (broadcast S32x128 0#32)) (broadcast S32x128 1#32) (broadcast S32x128 0#32)) 2147483648#32 reduces_S32x128_S128 rfl
  select (broadcastTo S32x128 (shapeCast S1x128 (cmpi .eq (shapeCast S1x128 v13 shapeCasts_S128_S1x128) (broadcast S1x128 0#32)) shapeCasts_S1x128_S1x128) broadcasts_S1x128_S32x128)
    (broadcast S32x128 0#32) (xori v7 (constantI S32x128 32 4294967295#32))

theorem pay4_eq (w : Vec F S1x32x100 .i32) : k0_pay4 w = bitcast S32x128 32 (trunci 8 (transpose S128x128 [1, 0]
    (extsi 32 (bitcast S128x128 8 (maskWords w) bitcasts_S32x128_w32_S128x128_w8) natLt_8_32) transposes_S128x128_p1_0_S128x128) natLt_8_32) bitcasts_S128x128_w8_S32x128_w32 := rfl

/-- Bit `q` of packed word `r`, column `c`: bit `8 (c % 4) + q % 8` of mask word `c / 4` at query `4 r + q / 8`. -/
theorem pay4_bit (w : Vec F S1x32x100 .i32) (r : Fin 32) (c : Fin 128) (q : ℕ) (hq : q < 32) (a : Fin 32) (n : Fin 128)
    (ha : a.val = c.val / 4) (hn : n.val = 4 * r.val + q / 8) :
    (k0_pay4 w (ix2 r c)).getLsbD q = (maskWords w (ix2 a n)).getLsbD (8 * (c.val % 4) + q % 8) := by
  rw [pay4_eq]
  rw [show (ix2 r c : S32x128.Idx) = ValueIdx.ix2 r c from rfl, bitcast_8_32_getLsbD_ix2 _ _ r c q hq n hn]
  have h8 : q % 8 < 8 := Nat.mod_lt _ (by decide)
  have e : ∀ x : BitVec 8, ((x.signExtend 32).setWidth 8) = x := by decide +kernel
  have e2 : trunci 8 (transpose S128x128 [1, 0]
    (extsi 32 (bitcast S128x128 8 (maskWords w) bitcasts_S32x128_w32_S128x128_w8) natLt_8_32) transposes_S128x128_p1_0_S128x128) natLt_8_32 (ix2 n c)
      = bitcast S128x128 8 (maskWords w) bitcasts_S32x128_w32_S128x128_w8 (ix2 c n) := by
    generalize bitcast S128x128 8 (maskWords w) bitcasts_S32x128_w32_S128x128_w8 = y
    pointwise
    exact e _
  have e3 := congrArg (fun z : BitVec 8 => z.getLsbD (q % 8)) e2
  exact e3.trans (bitcast_32_8_getLsbD_ix2 _ _ c n (q % 8) h8 a ha)

/-- The running maximum of ones and zeros is zero just when there is no one. -/
theorem fold_flags {ι : Type} [Fintype ι] [Nonempty ι] [DecidableEq ι] (b : ι → BitVec 32) (hb : ∀ x, b x = 0#32 ∨ b x = 1#32) :
    (Finset.fold IntOp.maxsi (2147483648#32) b Finset.univ = 0#32) ↔ ∀ x, b x = 0#32 := by
  have key : ∀ S : Finset ι, (S = ∅ ∧ Finset.fold IntOp.maxsi (2147483648#32) b S = 2147483648#32)
      ∨ ((∀ x ∈ S, b x = 0#32) ∧ Finset.fold IntOp.maxsi (2147483648#32) b S = 0#32)
      ∨ ((∃ x ∈ S, b x = 1#32) ∧ Finset.fold IntOp.maxsi (2147483648#32) b S = 1#32) := by
    intro S
    induction S using Finset.induction_on with
    | empty => exact Or.inl ⟨rfl, Finset.fold_empty⟩
    | insert x S hx ih =>
      rw [Finset.fold_insert hx]
      right
      rcases ih with ⟨h, e⟩ | ⟨h, e⟩ | ⟨⟨y, hy, h⟩, e⟩ <;> rw [e] <;> rcases hb x with h0 | h0 <;> rw [h0]
      · left; subst h; refine ⟨?_, by decide +kernel⟩; intro y hy; rw [Finset.mem_insert] at hy; rcases hy with rfl | hy
        · exact h0
        · exact absurd hy (Finset.notMem_empty _)
      · right; exact ⟨⟨x, Finset.mem_insert_self _ _, h0⟩, by decide +kernel⟩
      · left; refine ⟨?_, by decide +kernel⟩; intro y hy; rw [Finset.mem_insert] at hy; rcases hy with rfl | hy
        · exact h0
        · exact h y hy
      · right; exact ⟨⟨x, Finset.mem_insert_self _ _, h0⟩, by decide +kernel⟩
      · right; exact ⟨⟨y, Finset.mem_insert_of_mem hy, h⟩, by decide +kernel⟩
      · right; exact ⟨⟨x, Finset.mem_insert_self _ _, h0⟩, by decide +kernel⟩
  rcases key Finset.univ with ⟨h, e⟩ | ⟨h, e⟩ | ⟨⟨y, hy, h⟩, e⟩
  · exact absurd h (Finset.univ_nonempty.ne_empty)
  · rw [e]; exact ⟨fun _ x => h x (Finset.mem_univ x), fun _ => rfl⟩
  · rw [e]; exact ⟨fun h => absurd h (by decide), fun h' => absurd ((h' y).symm.trans h) (by decide)⟩

theorem maskWords_at (w : Vec F S1x32x100 .i32) (a : Fin 32) (n : Fin 128) (k : Fin 100) (hk : n.val = k.val) :
    maskWords w (ix2 a n) = if ∀ b : Fin 32, w (ix3 0 b k) = 0#32 then 0#32 else ~~~ w (ix3 0 a k) := by
  have hn : n.val < 100 := hk ▸ k.isLt
  have hk' : (⟨n.val, hn⟩ : Fin 100) = k := Fin.ext hk
  have hflag : ∀ y : BitVec 32, Scalar.select (IntOp.cmpi CmpIPredicate.ne y 0#32) 1#32 0#32 = if y = 0#32 then 0#32 else 1#32 := by
    intro y
    by_cases h : y = 0#32
    · subst h; decide +kernel
    · rw [if_neg h]
      have : IntOp.cmpi CmpIPredicate.ne y 0#32 = 1#1 := by
        have hb : (y != 0#32) = true := bne_iff_ne.mpr h
        show BitVec.ofBool (y != 0#32) = _
        rw [hb]; rfl
      rw [this]; rfl
  unfold maskWords
  pointwise
  simp only [dif_pos hn, hk', hflag]
  have hf := fold_flags (fun x : Fin 32 => if w (ix3 0 x k) = 0#32 then (0#32 : BitVec 32) else 1#32) (fun x => by
    by_cases h : w (ix3 0 x k) = 0#32
    · exact Or.inl (if_pos h)
    · exact Or.inr (if_neg h))
  have hf2 : (∀ x : Fin 32, (if w (ix3 0 x k) = 0#32 then (0#32 : BitVec 32) else 1#32) = 0#32) ↔ ∀ b : Fin 32, w (ix3 0 b k) = 0#32 :=
    forall_congr' fun x => by by_cases h : w (ix3 0 x k) = 0#32 <;> simp [h]
  rw [hf2] at hf
  by_cases h : ∀ b : Fin 32, w (ix3 0 b k) = 0#32
  · rw [if_pos h, hf.mpr h]; rfl
  · rw [if_neg h]
    have h2 := (not_congr hf).mpr h
    have h3 : ∀ y : BitVec 32, y ≠ 0#32 → IntOp.cmpi CmpIPredicate.eq y 0#32 = 0#1 := by
      intro y hy
      have hb : (y == 0#32) = false := beq_eq_false_iff_ne.mpr hy
      show BitVec.ofBool (y == 0#32) = _
      rw [hb]; rfl
    rw [h3 _ h2]
    show (w (ix3 0 a k)) ^^^ 4294967295#32 = _
    generalize w (ix3 0 a k) = y
    exact BitVec.xor_allOnes (x := y)

/-- Pixel `p` of query `n` is masked: the query's words are not all zero, and the pixel's bit is clear. -/
def Masked (w : Vec F S1x32x100 .i32) (n : Fin 100) (a : Fin 32) (p : ℕ) : Prop :=
  (¬ ∀ b : Fin 32, w (ix3 0 b n) = 0#32) ∧ (w (ix3 0 a n)).getLsbD (p % 32) = false

theorem maskWords_bit (w : Vec F S1x32x100 .i32) (a : Fin 32) (n : Fin 128) (k : Fin 100) (hk : n.val = k.val) (p : ℕ) :
    (maskWords w (ix2 a n)).getLsbD (p % 32) = true ↔ Masked w k a p := by
  rw [maskWords_at w a n k hk]
  unfold Masked
  have hp : p % 32 < 32 := Nat.mod_lt _ (by decide)
  by_cases h : ∀ b : Fin 32, w (ix3 0 b k) = 0#32
  · rw [if_pos h]; simp [h]
  · rw [if_neg h, BitVec.getLsbD_not]; simp [h, hp]

theorem chunk_byte (y s : BitVec 32) (q : ℕ) (hq : q < 8) (b : ℕ) (hb : b < 4) (hs : s.toNat < 8) :
    (((y >>> s) &&& 16843009#32) <<< (6#32)).getLsbD (8 * b + q) = (decide (q = 6) && y.getLsbD (8 * b + s.toNat)) := by
  have e1 : ∀ b : Fin 4, ∀ q : Fin 8, ∀ i : Fin 8, q.val = 6 ∨ (16843009#32).getLsbD (8 * b.val + q.val - 6) = false ∨ 8 * b.val + q.val < 6 := by decide +kernel
  have e2 : ∀ b : Fin 4, (16843009#32).getLsbD (8 * b.val) = true := by decide +kernel
  rw [BitVec.shiftLeft_eq', BitVec.getLsbD_shiftLeft, BitVec.getLsbD_and, BitVec.ushiftRight_eq', BitVec.getLsbD_ushiftRight]
  rw [show (6#32).toNat = 6 from rfl]
  have h32 : 8 * b + q < 32 := by omega
  by_cases h6 : q = 6
  · subst h6
    have e2' : (16843009#32).getLsbD (8 * b) = true := e2 ⟨b, hb⟩
    have ee : 8 * b + 6 - 6 = 8 * b := by omega
    have : ¬ (8 * b + 6 < 6) := by omega
    rw [ee, e2', Nat.add_comm s.toNat]
    simp [h32, this]
  · rcases e1 ⟨b, hb⟩ ⟨q, hq⟩ 0 with h | h | h
    · exact absurd h h6
    · have h' : (16843009#32).getLsbD (8 * b + q - 6) = false := h
      rw [h']; simp [h6]
    · have h' : 8 * b + q < 6 := h
      simp [h6, h']

/-- The code a bit stands for: two where it is set, zero where it is clear. -/
def codeBits (b : Prop) [Decidable b] : BitVec 8 := if b then 0x40#8 else 0x00#8

theorem chunkF_at (w : Vec F S1x32x100 .i32) (g : Fin 8) (n : Fin 128) (l : Fin 128) (k : Fin 100) (hk : n.val = k.val)
    (a : Fin 32) (ha : a.val = (128 * g.val + l.val) / 32) [Decidable (Masked w k a (128 * g.val + l.val))] :
    chunkF (F := F) (k0_pay4 w) (BitVec.ofNat 32 (16 * g.val)) (ix2 n l)
      = FloatOps.ofBits .fp8e4m3 (codeBits (Masked w k a (128 * g.val + l.val))) := by
  unfold chunkF
  show FloatOps.ofBits .fp8e4m3 (bitcast S128x128 8 _ bitcasts_S32x128_w32_S128x128_w8 (ix2 n l)) = _
  congr 1
  apply BitVec.eq_of_getLsbD_eq
  intro q hq
  have hq8 : q < 8 := hq
  let r : Fin 32 := ⟨n.val / 4, by omega⟩
  rw [bitcast_32_8_getLsbD_ix2 _ _ n l q hq8 r rfl]
  have hg := g.isLt
  have hl := l.isLt
  have hL : (BitVec.ofNat 32 (l.val % 8)).toNat = l.val % 8 := by rw [BitVec.toNat_ofNat]; omega
  have hC : (BitVec.ofNat 32 (16 * g.val + l.val / 8)).toNat = 16 * g.val + l.val / 8 := by rw [BitVec.toNat_ofNat]; omega
  let c : Fin 128 := ⟨16 * g.val + l.val / 8, by omega⟩
  have step : (shli (andi (shrui (dynamicGather 1 (k0_pay4 w) (sourceW (BitVec.ofNat 32 (16 * g.val)))) (floorModW laneW 8#32 broadcasts_S32x128_S32x128))
    (broadcast S32x128 16843009#32)) (broadcast S32x128 6#32)) (ix2 r l)
      = (((k0_pay4 w (ix2 r c)) >>> (BitVec.ofNat 32 (l.val % 8))) &&& 16843009#32) <<< (6#32) := by
    pointwise [sourceW_at, floorMod8]
    rw [show (⟨(BitVec.ofNat 32 (16 * g.val + l.val / 8)).toNat % 128, Nat.mod_lt _ (by decide)⟩ : Fin 128) = c from
      Fin.ext (by show _ % 128 = 16 * g.val + l.val / 8; rw [hC]; omega)]
    generalize k0_pay4 w (ix2 r c) = y
    unfold IntOp.shli IntOp.shrui
    rw [if_pos (by decide), if_pos (by rw [hL]; omega)]
    rfl
  have := congrArg (fun z : BitVec 32 => z.getLsbD (8 * (n.val % 4) + q)) step
  refine this.trans ?_
  show BitVec.getLsbD _ _ = _
  rw [chunk_byte _ _ q hq8 _ (by omega) (by rw [hL]; omega), hL]
  rw [pay4_bit w r c (8 * (n.val % 4) + l.val % 8) (by omega) a n (by show a.val = (16 * g.val + l.val / 8) / 4; omega) (by show n.val = 4 * (n.val / 4) + _; omega)]
  have e : 8 * (c.val % 4) + (8 * (n.val % 4) + l.val % 8) % 8 = (128 * g.val + l.val) % 32 := by
    show 8 * ((16 * g.val + l.val / 8) % 4) + _ = _; omega
  rw [e]
  have hm := maskWords_bit w a n k hk (128 * g.val + l.val)
  unfold codeBits
  by_cases h : Masked w k a (128 * g.val + l.val)
  · rw [if_pos h, hm.mpr h]
    have : ∀ q : Fin 8, (decide (q.val = 6) && true) = (0x40#8).getLsbD q.val := by decide +kernel
    exact this ⟨q, hq8⟩
  · rw [if_neg h]
    have h2 : (maskWords w (ix2 a n)).getLsbD ((128 * g.val + l.val) % 32) = false := by
      cases hh : (maskWords w (ix2 a n)).getLsbD ((128 * g.val + l.val) % 32) with
      | false => rfl
      | true => exact absurd (hm.mp hh) h
    rw [h2]
    have : ∀ q : Fin 8, (decide (q.val = 6) && false) = (0x00#8).getLsbD q.val := by decide +kernel
    exact this ⟨q, hq8⟩

open Classical in
/-- The code word of pixel `p` for query `k`: two where the pixel is masked, zero where it is not. -/
def codeAt (w : Vec F S1x32x100 .i32) (k : Fin 100) (p : Fin 1024) : BitVec 8 :=
  codeBits (Masked w k ⟨p.val / 32, by omega⟩ p.val)

theorem chunkF_code (w : Vec F S1x32x100 .i32) (g : Fin 8) (n : Fin 128) (l : Fin 128) (k : Fin 100) (hk : n.val = k.val) (p : Fin 1024)
    (hp : p.val = 128 * g.val + l.val) :
    chunkF (F := F) (k0_pay4 w) (BitVec.ofNat 32 (16 * g.val)) (ix2 n l) = FloatOps.ofBits .fp8e4m3 (codeAt w k p) := by
  classical
  obtain ⟨pv, hpv⟩ := p
  obtain rfl : pv = 128 * g.val + l.val := hp
  rw [chunkF_at w g n l k hk ⟨(128 * g.val + l.val) / 32, by omega⟩ rfl]
  unfold codeAt
  congr 2

theorem codesF_at (w : Vec F S1x32x100 .i32) (n : Fin 128) (k : Fin 100) (hk : n.val = k.val) (p : Fin 1024) :
    codesF (F := F) w (ix2 n p) = FloatOps.ofBits .fp8e4m3 (codeAt w k p) := by
  unfold codesF
  pointwise
  by_cases h0 : p.val < 128
  · rw [dif_pos h0]; exact chunkF_code w 0 n ⟨p.val, h0⟩ k hk p (by show p.val = 128 * 0 + (p.val); omega)
  rw [dif_neg h0]
  by_cases h1 : p.val - 128 < 128
  · rw [dif_pos h1]; exact chunkF_code w 1 n ⟨p.val - 128, h1⟩ k hk p (by show p.val = 128 * 1 + (p.val - 128); omega)
  rw [dif_neg h1]
  by_cases h2 : p.val - 128 - 128 < 128
  · rw [dif_pos h2]; exact chunkF_code w 2 n ⟨p.val - 128 - 128, h2⟩ k hk p (by show p.val = 128 * 2 + (p.val - 128 - 128); omega)
  rw [dif_neg h2]
  by_cases h3 : p.val - 128 - 128 - 128 < 128
  · rw [dif_pos h3]; exact chunkF_code w 3 n ⟨p.val - 128 - 128 - 128, h3⟩ k hk p (by show p.val = 128 * 3 + (p.val - 128 - 128 - 128); omega)
  rw [dif_neg h3]
  by_cases h4 : p.val - 128 - 128 - 128 - 128 < 128
  · rw [dif_pos h4]; exact chunkF_code w 4 n ⟨p.val - 128 - 128 - 128 - 128, h4⟩ k hk p (by show p.val = 128 * 4 + (p.val - 128 - 128 - 128 - 128); omega)
  rw [dif_neg h4]
  by_cases h5 : p.val - 128 - 128 - 128 - 128 - 128 < 128
  · rw [dif_pos h5]; exact chunkF_code w 5 n ⟨p.val - 128 - 128 - 128 - 128 - 128, h5⟩ k hk p (by show p.val = 128 * 5 + (p.val - 128 - 128 - 128 - 128 - 128); omega)
  rw [dif_neg h5]
  by_cases h6 : p.val - 128 - 128 - 128 - 128 - 128 - 128 < 128
  · rw [dif_pos h6]; exact chunkF_code w 6 n ⟨p.val - 128 - 128 - 128 - 128 - 128 - 128, h6⟩ k hk p (by show p.val = 128 * 6 + (p.val - 128 - 128 - 128 - 128 - 128 - 128); omega)
  rw [dif_neg h6]
  exact chunkF_code w 7 n ⟨p.val - 128 - 128 - 128 - 128 - 128 - 128 - 128, by omega⟩ k hk p (by show p.val = 128 * 7 + (p.val - 128 - 128 - 128 - 128 - 128 - 128 - 128); omega)

end Cert.KernelIdeal.Gen

end
-- ==== Proof.Attention.Scores.lean ====
/- The scores, weights and outputs of one image, read element by element at the exact instance. -/
module

public import proofs.«01_k».proof.Proof.Attention.Mask
public import Idealize.ShloMosaic.Lib.Pointwise

@[expose] public section

set_option maxRecDepth 16384

noncomputable section

namespace Cert.KernelIdeal.Gen

open Idealize.ShloMosaic Idealize.ShloMosaic.TcCoe Idealize.SL.Sem

/-! ## One image's scores and outputs, at an index, over the extended reals -/

section
variable (x0 : Vec Ideal S1x256x100 .bf16) (x1 : Vec Ideal S1x256x1024 .fp8e4m3) (x2 : Vec Ideal S1x8x1024 .f32)
  (x3 : Vec Ideal S1x256x1024 .fp8e4m3) (x4 : Vec Ideal S1x8x1024 .f32) (x5 : Vec Ideal S1x32x100 .i32)

/-- Two row numbers' words are equal just when the numbers are. -/
theorem select_eq {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  by_cases h : a = b
  · subst h
    rw [if_pos rfl]
    have hb : (BitVec.ofNat 32 a == BitVec.ofNat 32 a) = true := beq_self_eq_true _
    show Scalar.select (BitVec.ofBool (BitVec.ofNat 32 a == BitVec.ofNat 32 a)) x y = x
    rw [hb]; rfl
  · rw [if_neg h]
    have hne : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    have hb : (BitVec.ofNat 32 a == BitVec.ofNat 32 b) = false := beq_eq_false_iff_ne.mpr hne
    show Scalar.select (BitVec.ofBool (BitVec.ofNat 32 a == BitVec.ofNat 32 b)) x y = y
    rw [hb]; rfl

theorem ofBits_negInf : Ideal.ofBits .f32 0xFF800000#32 = ⊥ := by simp [Ideal.ofBits, Ideal.ieee]

theorem ofBits_two8 : (FloatOps.ofBits .fp8e4m3 0x40#8 : Ideal .fp8e4m3) = ((2 : ℝ) : EReal) := by
  show Ideal.ofBits .fp8e4m3 0x40#8 = _
  simp [Ideal.ofBits, Ideal.e4m3fn, -EReal.coe_mul]
  norm_num

theorem ofBits_zero8 : (FloatOps.ofBits .fp8e4m3 0x00#8 : Ideal .fp8e4m3) = (0 : EReal) := by
  show Ideal.ofBits .fp8e4m3 0x00#8 = _
  simp [Ideal.ofBits, Ideal.e4m3fn]

theorem eye_word (n : Fin 104) (hn : n.val < 100) (c : ℕ) (hc : c = n.val) (j : Fin 128) (a : EReal) :
    Scalar.select (IntOp.andi (IntOp.cmpi CmpIPredicate.eq (BitVec.ofNat 32 c) (BitVec.ofNat 32 j.val))
      (IntOp.cmpi CmpIPredicate.slt (BitVec.ofNat 32 c) 100#32)) a 0 = if n.val = j.val then a else (0 : EReal) := by
  subst hc
  have h1 : ∀ n : Fin 104, n.val < 100 → IntOp.cmpi CmpIPredicate.slt (BitVec.ofNat 32 n.val) 100#32 = 1#1 := by decide +kernel
  have h2 : ∀ z : BitVec 1, IntOp.andi z 1#1 = z := by decide +kernel
  rw [h1 n hn, h2]
  exact select_eq _ _ (by omega) (by omega) _ _

theorem eye_at (h : Fin 4) (n : Fin 104) (j : Fin 128) (r : Fin 416) (hr : r.val = h.val * 104 + n.val) (hn : n.val < 100) :
    (k0_pay3 (F := Ideal)) (ix2 r j) = if n.val = j.val then (⊥ : EReal) else 0 := by
  have hn4 := n.isLt
  have hN : (Named.named κ "masked" 0xFE000000#32 : Ideal .f32) = (⊥ : EReal) := rfl
  unfold k0_pay3
  pointwise
  rw [hN]
  by_cases h0 : r.val < 104
  · rw [dif_pos h0]; exact eye_word n hn _ (by omega) j ⊥
  rw [dif_neg h0]
  by_cases h1 : r.val - 104 < 104
  · rw [dif_pos h1]; exact eye_word n hn _ (by omega) j ⊥
  rw [dif_neg h1]
  by_cases h2 : r.val - 104 - 104 < 104
  · rw [dif_pos h2]; exact eye_word n hn _ (by omega) j ⊥
  rw [dif_neg h2]
  exact eye_word n hn _ (by omega) j ⊥

theorem headRows_at (qr : FVec Ideal S104x128 .f32) (h : Fin 4) (n : Fin 104) (j : Fin 128) :
    headRows qr (BitVec.ofNat 32 h.val) (ix2 n j) = if j.val / 32 = h.val then qr (ix2 n j) else (0 : EReal) := by
  unfold headRows
  pointwise [floorDiv32]
  exact select_eq _ _ (by omega) (by omega) _ _

theorem lhsF_at (qr : FVec Ideal S104x128 .f32) (h : Fin 4) (n : Fin 104) (j : Fin 128) (r : Fin 416) (hr : r.val = h.val * 104 + n.val) :
    lhsF qr (ix2 r j) = if j.val / 32 = h.val then qr (ix2 n j) else (0 : EReal) := by
  have hn4 := n.isLt
  have hh := h.isLt
  have key : ∀ (g : Fin 4) (m : Fin 104), g.val * 104 + m.val = r.val → headRows qr (BitVec.ofNat 32 g.val) (ix2 m j) = if j.val / 32 = h.val then qr (ix2 n j) else (0 : EReal) := by
    intro g m e
    have hm := m.isLt
    obtain rfl : g = h := Fin.ext (by omega)
    obtain rfl : m = n := Fin.ext (by omega)
    exact headRows_at qr g m j
  unfold lhsF
  pointwise
  by_cases h0 : r.val < 104
  · rw [dif_pos h0]; exact key 0 ⟨r.val, by omega⟩ (by show 0 * 104 + (r.val) = r.val; omega)
  rw [dif_neg h0]
  by_cases h1 : r.val - 104 < 104
  · rw [dif_pos h1]; exact key 1 ⟨r.val - 104, by omega⟩ (by show 1 * 104 + (r.val - 104) = r.val; omega)
  rw [dif_neg h1]
  by_cases h2 : r.val - 104 - 104 < 104
  · rw [dif_pos h2]; exact key 2 ⟨r.val - 104 - 104, by omega⟩ (by show 2 * 104 + (r.val - 104 - 104) = r.val; omega)
  rw [dif_neg h2]
  exact key 3 ⟨r.val - 104 - 104 - 104, by omega⟩ (by show 3 * 104 + (r.val - 104 - 104 - 104) = r.val; omega)

theorem pay35_at (n : Fin 104) (k : Fin 100) (hk : n.val = k.val) (j : Fin 128) (ch : Fin 256) (hch : ch.val = j.val) :
    k0_pay35 x0 (ix2 n j) = x0 (ix3 0 ch k) := by
  unfold k0_pay35 k0_pay34
  pointwise
  have hn : n.val < 100 := hk ▸ k.isLt
  rw [dif_pos hn]
  congr 2
  · exact Fin.ext hch.symm
  · exact Fin.ext hk

theorem pay64_at (n : Fin 104) (k : Fin 100) (hk : n.val = k.val) (j : Fin 128) (ch : Fin 256) (hch : ch.val = 128 + j.val) :
    k0_pay64 (k0_pay34 x0) (ix2 n j) = x0 (ix3 0 ch k) := by
  unfold k0_pay64 k0_pay34
  pointwise
  have hn : n.val < 100 := hk ▸ k.isLt
  rw [dif_pos hn]
  congr 2
  · exact Fin.ext hch.symm
  · exact Fin.ext hk

/-- A row of scores as the kernel's one product over 256 columns gives it: the query's part and the mask's part. -/
def rawScore (codes : FVec Ideal S128x1024 .fp8e4m3) (wts : FVec Ideal S8x1024 .f32) (kb : Vec Ideal S1x128x1024 .fp8e4m3) (lhs : Vec Ideal S416x256 .bf16)
    (h : Fin 4) (H : Fin 8) (n : Fin 104) (p : Fin 1024) : EReal :=
  ((∑ x : Fin 128, lhs (ix2 ⟨h.val * 104 + n.val, by omega⟩ ⟨x.val, by omega⟩) * kb (ix3 0 x p))
    + ∑ x : Fin 128, lhs (ix2 ⟨h.val * 104 + n.val, by omega⟩ ⟨128 + x.val, by omega⟩) * codes (ix2 x p)) * wts (ix2 H p)

/-- The weights of a row of scores to the base two, the row's largest score taken off. -/
def weight2 (s : Fin 1024 → EReal) (p : Fin 1024) : EReal := Ideal.exp2 (s p - Finset.univ.fold max ⊥ s)

theorem weights48_at (codes : FVec Ideal S128x1024 .fp8e4m3) (wts : FVec Ideal S8x1024 .f32) (kb : Vec Ideal S1x128x1024 .fp8e4m3) (lhs : Vec Ideal S416x256 .bf16)
    (h : Fin 4) (H : Fin 8) (hH : H.val = h.val) (n : Fin 104) (p : Fin 1024) :
    k0_pay48 codes wts kb lhs (ix3 h n p) = weight2 (rawScore codes wts kb lhs h H n) p := by
  have eH : (⟨h.val, by omega⟩ : Fin 8) = H := Fin.ext hH.symm
  unfold k0_pay48 weight2 rawScore
  pointwise
  simp only [eH]
  rw [ofBits_negInf]
  rfl

theorem weights71_at (codes : FVec Ideal S128x1024 .fp8e4m3) (wts : FVec Ideal S8x1024 .f32) (kb : Vec Ideal S1x128x1024 .fp8e4m3) (lhs : Vec Ideal S416x256 .bf16)
    (h : Fin 4) (H : Fin 8) (hH : H.val = 4 + h.val) (n : Fin 104) (p : Fin 1024) :
    k0_pay71 codes wts kb lhs (ix3 h n p) = weight2 (rawScore codes wts kb lhs h H n) p := by
  have eH : (⟨4 + h.val, by omega⟩ : Fin 8) = H := Fin.ext hH.symm
  unfold k0_pay71 weight2 rawScore
  pointwise
  simp only [eH]
  rw [ofBits_negInf]
  rfl

theorem select_sge (m : Fin 4) (c : Fin 128) (x y : EReal) :
    Scalar.select (IntOp.cmpi CmpIPredicate.sge (BitVec.ofNat 32 (c.val / 32)) (BitVec.ofNat 32 m.val)) x y = if m.val ≤ c.val / 32 then x else y := by
  have h1 : ∀ (m : Fin 4) (c : Fin 128), IntOp.cmpi CmpIPredicate.sge (BitVec.ofNat 32 (c.val / 32)) (BitVec.ofNat 32 m.val) = if m.val ≤ c.val / 32 then 1#1 else 0#1 := by decide +kernel
  rw [h1]
  by_cases h : m.val ≤ c.val / 32
  · rw [if_pos h, if_pos h]; rfl
  · rw [if_neg h, if_neg h]; rfl

/-- A channel's output: the products with its head's weights, summed, over the head's sum of weights. -/
def headOut (e : FVec Ideal S4x104x1024 .f32) (v : Vec Ideal S1x32x1024 .fp8e4m3) (s : Vec Ideal S1x1x1024 .f32) (h : Fin 4) (n : Fin 104) (d : Fin 32) : EReal :=
  Ideal.div (∑ x : Fin 1024, v (ix3 0 d x) * s (ix3 0 0 x) * e (ix3 h n x)) (∑ x : Fin 1024, e (ix3 h n x))

theorem quad_at (e : FVec Ideal S4x104x1024 .f32) (v0 v1 v2 v3 : Vec Ideal S1x32x1024 .fp8e4m3) (s0 s1 s2 s3 : Vec Ideal S1x1x1024 .f32)
    (n : Fin 104) (c : Fin 128) (h : Fin 4) (d : Fin 32) (hc : c.val = 32 * h.val + d.val) :
    Ideal.div
      (if h : c.val < 32 then ∑ x : Fin 1024, v0 (ix3 0 ⟨c.val, h⟩ x) * s0 (ix3 0 0 x) * e (ix3 0 n x)
      else
        if h : c.val - 32 < 32 then ∑ x : Fin 1024, v1 (ix3 0 ⟨c.val - 32, h⟩ x) * s1 (ix3 0 0 x) * e (ix3 1 n x)
        else
          if h : c.val - 32 - 32 < 32 then ∑ x : Fin 1024, v2 (ix3 0 ⟨c.val - 32 - 32, h⟩ x) * s2 (ix3 0 0 x) * e (ix3 2 n x)
          else ∑ x : Fin 1024, v3 (ix3 0 ⟨c.val - 32 - 32 - 32, by omega⟩ x) * s3 (ix3 0 0 x) * e (ix3 3 n x))
      (Scalar.select (IntOp.cmpi CmpIPredicate.sge (BitVec.ofNat 32 (c.val / 32)) 3#32) (∑ x : Fin 1024, e (ix3 3 n x))
        (Scalar.select (IntOp.cmpi CmpIPredicate.sge (BitVec.ofNat 32 (c.val / 32)) 2#32) (∑ x : Fin 1024, e (ix3 2 n x))
          (Scalar.select (IntOp.cmpi CmpIPredicate.sge (BitVec.ofNat 32 (c.val / 32)) 1#32) (∑ x : Fin 1024, e (ix3 1 n x))
            (∑ x : Fin 1024, e (ix3 0 n x)))))
      = headOut e (![v0, v1, v2, v3] h) (![s0, s1, s2, s3] h) h n d := by
  have e3 := fun x y => select_sge 3 c x y
  have e2 := fun x y => select_sge 2 c x y
  have e1 := fun x y => select_sge 1 c x y
  change ∀ x y : EReal, Scalar.select (IntOp.cmpi CmpIPredicate.sge (BitVec.ofNat 32 (c.val / 32)) 3#32) x y = if 3 ≤ c.val / 32 then x else y at e3
  change ∀ x y : EReal, Scalar.select (IntOp.cmpi CmpIPredicate.sge (BitVec.ofNat 32 (c.val / 32)) 2#32) x y = if 2 ≤ c.val / 32 then x else y at e2
  change ∀ x y : EReal, Scalar.select (IntOp.cmpi CmpIPredicate.sge (BitVec.ofNat 32 (c.val / 32)) 1#32) x y = if 1 ≤ c.val / 32 then x else y at e1
  have hd := d.isLt
  unfold headOut
  rw [e3, e2, e1]
  have h4' : ∀ h : Fin 4, h = 0 ∨ h = 1 ∨ h = 2 ∨ h = 3 := by decide +kernel
  have h4 := h4' h
  rcases h4 with rfl | rfl | rfl | rfl
  · have hc' : c.val = 0 + d.val := hc
    rw [if_neg (by omega : ¬ 3 ≤ c.val / 32)]
    rw [if_neg (by omega : ¬ 2 ≤ c.val / 32)]
    rw [if_neg (by omega : ¬ 1 ≤ c.val / 32)]
    rw [dif_pos (by omega : c.val < 32)]
    rw [show (⟨c.val, by omega⟩ : Fin 32) = d from Fin.ext (by show c.val = d.val; omega)]
    rfl
  · have hc' : c.val = 32 + d.val := hc
    rw [if_neg (by omega : ¬ 3 ≤ c.val / 32)]
    rw [if_neg (by omega : ¬ 2 ≤ c.val / 32)]
    rw [if_pos (by omega : 1 ≤ c.val / 32)]
    rw [dif_neg (by omega : ¬ c.val < 32)]
    rw [dif_pos (by omega : c.val - 32 < 32)]
    rw [show (⟨c.val - 32, by omega⟩ : Fin 32) = d from Fin.ext (by show c.val - 32 = d.val; omega)]
    rfl
  · have hc' : c.val = 64 + d.val := hc
    rw [if_neg (by omega : ¬ 3 ≤ c.val / 32)]
    rw [if_pos (by omega : 2 ≤ c.val / 32)]
    rw [dif_neg (by omega : ¬ c.val < 32)]
    rw [dif_neg (by omega : ¬ c.val - 32 < 32)]
    rw [dif_pos (by omega : c.val - 32 - 32 < 32)]
    rw [show (⟨c.val - 32 - 32, by omega⟩ : Fin 32) = d from Fin.ext (by show c.val - 32 - 32 = d.val; omega)]
    rfl
  · have hc' : c.val = 96 + d.val := hc
    rw [if_pos (by omega : 3 ≤ c.val / 32)]
    rw [dif_neg (by omega : ¬ c.val < 32)]
    rw [dif_neg (by omega : ¬ c.val - 32 < 32)]
    rw [dif_neg (by omega : ¬ c.val - 32 - 32 < 32)]
    rw [show (⟨c.val - 32 - 32 - 32, by omega⟩ : Fin 32) = d from Fin.ext (by show c.val - 32 - 32 - 32 = d.val; omega)]
    rfl

theorem group0_at (codes : FVec Ideal S128x1024 .fp8e4m3) (wts : FVec Ideal S8x1024 .f32) (kb : Vec Ideal S1x128x1024 .fp8e4m3) (lhs : Vec Ideal S416x256 .bf16)
    (v0 v1 v2 v3 : Vec Ideal S1x32x1024 .fp8e4m3) (s0 s1 s2 s3 : Vec Ideal S1x1x1024 .f32) (n : Fin 104) (c : Fin 128) (h : Fin 4) (d : Fin 32) (hc : c.val = 32 * h.val + d.val) :
    group0F codes wts kb lhs v0 v1 v2 v3 s0 s1 s2 s3 (ix2 n c) = headOut (k0_pay48 codes wts kb lhs) (![v0, v1, v2, v3] h) (![s0, s1, s2, s3] h) h n d := by
  unfold group0F k0_pay55 k0_pay51 k0_pay52 k0_pay53 k0_pay54 k0_pay50 denF denRow k0_pay49
  generalize k0_pay48 codes wts kb lhs = e
  pointwise [floorDiv32]
  exact quad_at e v0 v1 v2 v3 s0 s1 s2 s3 n c h d hc

theorem group1_at (codes : FVec Ideal S128x1024 .fp8e4m3) (wts : FVec Ideal S8x1024 .f32) (kb : Vec Ideal S1x128x1024 .fp8e4m3) (lhs : Vec Ideal S416x256 .bf16)
    (v0 v1 v2 v3 : Vec Ideal S1x32x1024 .fp8e4m3) (s0 s1 s2 s3 : Vec Ideal S1x1x1024 .f32) (n : Fin 104) (c : Fin 128) (h : Fin 4) (d : Fin 32) (hc : c.val = 32 * h.val + d.val) :
    group1F codes wts kb lhs v0 v1 v2 v3 s0 s1 s2 s3 (ix2 n c) = headOut (k0_pay71 codes wts kb lhs) (![v0, v1, v2, v3] h) (![s0, s1, s2, s3] h) h n d := by
  unfold group1F k0_pay77 k0_pay74 k0_pay75 k0_pay76 k0_pay73 denF denRow k0_pay72
  generalize k0_pay71 codes wts kb lhs = e
  pointwise [floorDiv32]
  exact quad_at e v0 v1 v2 v3 s0 s1 s2 s3 n c h d hc

open Classical in
/-- What the mask adds to a score: minus infinity where the pixel is masked. -/
def maskTerm (w : Vec Ideal S1x32x100 .i32) (n : Fin 100) (p : Fin 1024) : EReal :=
  if Masked w n ⟨p.val / 32, by omega⟩ p.val then ⊥ else 0

theorem code_term (w : Vec Ideal S1x32x100 .i32) (n : Fin 100) (p : Fin 1024) :
    (⊥ : EReal) * (FloatOps.ofBits .fp8e4m3 (codeAt w n p) : Ideal .fp8e4m3) = maskTerm w n p := by
  unfold codeAt maskTerm codeBits
  by_cases h : Masked w n ⟨p.val / 32, by omega⟩ p.val
  · rw [if_pos h, if_pos h, ofBits_two8]
    exact EReal.bot_mul_coe_of_pos (by norm_num)
  · rw [if_neg h, if_neg h, ofBits_zero8]
    exact mul_zero _

/-- The number the weights of the keys are multiplied with. -/
def scoreScale : EReal := (((11863283 / 67108864) * (Real.log 2)⁻¹ : ℝ) : EReal)

/-- A head's score of a pixel for a query, as the kernel has it. -/
def imgScore (H : Fin 8) (n : Fin 100) (p : Fin 1024) : EReal :=
  ((∑ d : Fin 32, x0 (ix3 0 ⟨H.val * 32 + d.val, by omega⟩ n) * x1 (ix3 0 ⟨H.val * 32 + d.val, by omega⟩ p)) + maskTerm x5 n p) * (x2 (ix3 0 H p) * scoreScale)

theorem pay33_at (H : Fin 8) (p : Fin 1024) : k0_pay33 x2 (ix2 H p) = x2 (ix3 0 H p) * scoreScale := by
  have hN : (Named.named κ "score" 0x3E8293EE#32 : Ideal .f32) = scoreScale := rfl
  unfold k0_pay33
  pointwise
  rw [hN]

theorem sum_head (h : Fin 4) (f g : Fin 128 → EReal) :
    (∑ j : Fin 128, (if j.val / 32 = h.val then f j else 0) * g j) = ∑ d : Fin 32, f ⟨h.val * 32 + d.val, by omega⟩ * g ⟨h.val * 32 + d.val, by omega⟩ := by
  rw [Fin.sum_univ_tiles 4 32 rfl, Finset.sum_eq_single h]
  · refine Finset.sum_congr rfl fun d _ => ?_
    rw [if_pos (by show (h.val * 32 + d.val) / 32 = h.val; omega)]
  · intro t _ ht
    refine Finset.sum_eq_zero fun d _ => ?_
    rw [if_neg (by show ¬ (t.val * 32 + d.val) / 32 = h.val; intro e; exact ht (Fin.ext (by omega))), zero_mul]
  · intro hh; exact absurd (Finset.mem_univ h) hh

theorem sum_eye (n : Fin 100) (g : Fin 128 → EReal) : (∑ j : Fin 128, (if n.val = j.val then (⊥ : EReal) else 0) * g j) = ⊥ * g ⟨n.val, by omega⟩ := by
  rw [Finset.sum_eq_single (⟨n.val, by omega⟩ : Fin 128)]
  · rw [if_pos rfl]
  · intro j _ hj
    rw [if_neg (fun e => hj (Fin.ext e.symm)), zero_mul]
  · intro hh; exact absurd (Finset.mem_univ _) hh

/-- A group's row of raw scores is its head's row of scores. -/
theorem rawScore_eq (kb : Vec Ideal S1x128x1024 .fp8e4m3) (lhs : Vec Ideal S416x256 .bf16) (g : Fin 2) (h : Fin 4) (H : Fin 8) (hH : H.val = 4 * g.val + h.val)
    (n' : Fin 104) (n : Fin 100) (hn : n'.val = n.val)
    (hl : ∀ j : Fin 128, lhs (ix2 ⟨h.val * 104 + n'.val, by omega⟩ ⟨j.val, by omega⟩) = if j.val / 32 = h.val then x0 (ix3 0 ⟨128 * g.val + j.val, by omega⟩ n) else (0 : EReal))
    (hr : ∀ j : Fin 128, lhs (ix2 ⟨h.val * 104 + n'.val, by omega⟩ ⟨128 + j.val, by omega⟩) = if n.val = j.val then (⊥ : EReal) else 0)
    (hk : ∀ (j : Fin 128) (p : Fin 1024), kb (ix3 0 j p) = x1 (ix3 0 ⟨128 * g.val + j.val, by omega⟩ p)) (p : Fin 1024) :
    rawScore (codesF x5) (k0_pay33 x2) kb lhs h H n' p = imgScore x0 x1 x2 x5 H n p := by
  have hh := h.isLt
  have hg := g.isLt
  unfold rawScore imgScore
  rw [pay33_at]
  simp only [hl, hr, hk]
  rw [sum_head h (fun j => x0 (ix3 0 ⟨128 * g.val + j.val, by omega⟩ n)) (fun j => x1 (ix3 0 ⟨128 * g.val + j.val, by omega⟩ p)), sum_eye n (fun j => codesF x5 (ix2 j p)),
    codesF_at x5 ⟨n.val, by omega⟩ n rfl p, code_term]
  congr 2
  refine Finset.sum_congr rfl fun d _ => ?_
  have e : (⟨128 * g.val + (h.val * 32 + d.val), by omega⟩ : Fin 256) = ⟨H.val * 32 + d.val, by omega⟩ := Fin.ext (by show 128 * g.val + (h.val * 32 + d.val) = H.val * 32 + d.val; omega)
  show x0 (ix3 0 ⟨128 * g.val + (h.val * 32 + d.val), _⟩ n) * x1 (ix3 0 ⟨128 * g.val + (h.val * 32 + d.val), _⟩ p) = _
  rw [e]

/-- A channel's output for a query, as the kernel has it. -/
def imgOut (H : Fin 8) (n : Fin 100) (d : Fin 32) : EReal :=
  Ideal.div (∑ p : Fin 1024, x3 (ix3 0 ⟨H.val * 32 + d.val, by omega⟩ p) * x4 (ix3 0 H p) * weight2 (imgScore x0 x1 x2 x5 H n) p)
    (∑ p : Fin 1024, weight2 (imgScore x0 x1 x2 x5 H n) p)

theorem headOut_eq (e : FVec Ideal S4x104x1024 .f32) (v : Vec Ideal S1x32x1024 .fp8e4m3) (s : Vec Ideal S1x1x1024 .f32) (h : Fin 4) (H : Fin 8) (n' : Fin 104) (n : Fin 100) (d : Fin 32)
    (he : ∀ p : Fin 1024, e (ix3 h n' p) = weight2 (imgScore x0 x1 x2 x5 H n) p) (hv : ∀ p : Fin 1024, v (ix3 0 d p) = x3 (ix3 0 ⟨H.val * 32 + d.val, by omega⟩ p))
    (hs : ∀ p : Fin 1024, s (ix3 0 0 p) = x4 (ix3 0 H p)) : headOut e v s h n' d = imgOut x0 x1 x2 x3 x4 x5 H n d := by
  unfold headOut imgOut
  simp only [he, hv, hs]

theorem left0_lo (xs : Vec Ideal S416x256 .bf16) (r : Fin 416) (j : Fin 128) :
    left0 x0 xs (ix2 r ⟨j.val, by omega⟩) = lhsF (k0_pay35 (View.ld x0 (Rect.unit (s := S1x256x100) ![0, 0, 0] S1x256x100.size inb_S1x256x100_S1x256x100_0_0_0))) (ix2 r j) := by
  unfold left0 VecWindow.put
  rw [dif_pos (by
    intro a
    match a with
    | ⟨0, _⟩ => exact ⟨Nat.zero_le _, by show r.val < 0 + 416; omega⟩
    | ⟨1, _⟩ => exact ⟨Nat.zero_le _, by show j.val < 0 + 128; omega⟩)]
  refine congrArg (lhsF _) ?_
  funext a
  match a with
  | ⟨0, _⟩ => rfl
  | ⟨1, _⟩ => rfl

theorem left1_lo (xs : Vec Ideal S416x256 .bf16) (r : Fin 416) (j : Fin 128) :
    left1 x0 xs (ix2 r ⟨j.val, by omega⟩) = lhsF (k0_pay64 (k0_pay34 (View.ld x0 (Rect.unit (s := S1x256x100) ![0, 0, 0] S1x256x100.size inb_S1x256x100_S1x256x100_0_0_0)))) (ix2 r j) := by
  unfold left1
  conv_lhs => unfold VecWindow.put
  rw [dif_pos (by
    intro a
    match a with
    | ⟨0, _⟩ => exact ⟨Nat.zero_le _, by show r.val < 0 + 416; omega⟩
    | ⟨1, _⟩ => exact ⟨Nat.zero_le _, by show j.val < 0 + 128; omega⟩)]
  refine congrArg (lhsF _) ?_
  funext a
  match a with
  | ⟨0, _⟩ => rfl
  | ⟨1, _⟩ => rfl

theorem put_hi (xs : Vec Ideal S416x256 .bf16) (r : Fin 416) (j : Fin 128)
    (w' : Vec Ideal S416x128 .bf16) : VecWindow.put xs ![0, 0] S416x128.size w' (ix2 r ⟨128 + j.val, by omega⟩) = xs (ix2 r ⟨128 + j.val, by omega⟩) := by
  unfold VecWindow.put
  rw [dif_neg (by
    intro h
    have := (h ⟨1, Nat.one_lt_two⟩).2
    have h2 : 128 + j.val < 0 + 128 := this
    omega)]

theorem eyed_hi (xs : Vec Ideal S416x256 .bf16) (r : Fin 416) (j : Fin 128) : eyed xs (ix2 r ⟨128 + j.val, by omega⟩) = (k0_pay3 (F := Ideal)) (ix2 r j) := by
  unfold eyed VecWindow.put
  rw [dif_pos (by
    intro a
    match a with
    | ⟨0, _⟩ => exact ⟨Nat.zero_le _, by show r.val < 0 + 416; omega⟩
    | ⟨1, _⟩ => exact ⟨by show 128 ≤ 128 + j.val; omega, by show 128 + j.val < 128 + 128; omega⟩)]
  refine congrArg (k0_pay3 (F := Ideal)) ?_
  funext a
  match a with
  | ⟨0, _⟩ => rfl
  | ⟨1, _⟩ => exact Fin.ext (by show 128 + j.val - 128 = j.val; omega)

theorem left0_hi (xs : Vec Ideal S416x256 .bf16) (r : Fin 416) (j : Fin 128) : left0 x0 (eyed xs) (ix2 r ⟨128 + j.val, by omega⟩) = (k0_pay3 (F := Ideal)) (ix2 r j) := by
  unfold left0
  rw [put_hi, eyed_hi]

theorem left1_hi (xs : Vec Ideal S416x256 .bf16) (r : Fin 416) (j : Fin 128) : left1 x0 (eyed xs) (ix2 r ⟨128 + j.val, by omega⟩) = (k0_pay3 (F := Ideal)) (ix2 r j) := by
  unfold left1
  rw [put_hi, left0_hi]

theorem ld0_eq (ch : Fin 256) (k : Fin 100) : View.ld x0 (Rect.unit (s := S1x256x100) ![0, 0, 0] S1x256x100.size inb_S1x256x100_S1x256x100_0_0_0) (ix3 0 ch k) = x0 (ix3 0 ch k) := by
  pointwise
theorem ld2_eq : View.ld x2 (Rect.unit (s := S1x8x1024) ![0, 0, 0] S1x8x1024.size inb_S1x8x1024_S1x8x1024_0_0_0) = x2 := by
  funext i
  obtain ⟨a, b, c, rfl⟩ : ∃ a b c, i = ix3 a b c := ⟨i 0, i 1, i 2, eq_ix3 i⟩
  obtain rfl : a = 0 := Subsingleton.elim a 0
  pointwise
theorem ld5_eq : View.ld x5 (Rect.unit (s := S1x32x100) ![0, 0, 0] S1x32x100.size inb_S1x32x100_S1x32x100_0_0_0) = x5 := by
  funext i
  obtain ⟨a, b, c, rfl⟩ : ∃ a b c, i = ix3 a b c := ⟨i 0, i 1, i 2, eq_ix3 i⟩
  obtain rfl : a = 0 := Subsingleton.elim a 0
  pointwise

theorem v0_at (h : Fin 4) (H : Fin 8) (hH : H.val = 0 + h.val) (d : Fin 32) (p : Fin 1024) :
    ((![(View.ld x3 (Rect.unit (s := S1x256x1024) ![0, 0, 0] S1x32x1024.size inb_S1x256x1024_S1x32x1024_0_0_0)), (View.ld x3 (Rect.unit (s := S1x256x1024) ![0, 32, 0] S1x32x1024.size inb_S1x256x1024_S1x32x1024_0_32_0)), (View.ld x3 (Rect.unit (s := S1x256x1024) ![0, 64, 0] S1x32x1024.size inb_S1x256x1024_S1x32x1024_0_64_0)), (View.ld x3 (Rect.unit (s := S1x256x1024) ![0, 96, 0] S1x32x1024.size inb_S1x256x1024_S1x32x1024_0_96_0))] : Fin 4 → Vec Ideal S1x32x1024 .fp8e4m3) h) (ix3 0 d p) = x3 (ix3 0 ⟨H.val * 32 + d.val, by omega⟩ p) := by
  have hd := d.isLt
  have h4 : ∀ h : Fin 4, h = 0 ∨ h = 1 ∨ h = 2 ∨ h = 3 := by decide +kernel
  rcases h4 h with rfl | rfl | rfl | rfl
  · show View.ld x3 (Rect.unit (s := S1x256x1024) ![0, 0, 0] S1x32x1024.size inb_S1x256x1024_S1x32x1024_0_0_0) (ix3 0 d p) = _
    obtain rfl : H = 0 := Fin.ext hH
    pointwise
  · show View.ld x3 (Rect.unit (s := S1x256x1024) ![0, 32, 0] S1x32x1024.size inb_S1x256x1024_S1x32x1024_0_32_0) (ix3 0 d p) = _
    obtain rfl : H = 1 := Fin.ext hH
    pointwise
  · show View.ld x3 (Rect.unit (s := S1x256x1024) ![0, 64, 0] S1x32x1024.size inb_S1x256x1024_S1x32x1024_0_64_0) (ix3 0 d p) = _
    obtain rfl : H = 2 := Fin.ext hH
    pointwise
  · show View.ld x3 (Rect.unit (s := S1x256x1024) ![0, 96, 0] S1x32x1024.size inb_S1x256x1024_S1x32x1024_0_96_0) (ix3 0 d p) = _
    obtain rfl : H = 3 := Fin.ext hH
    pointwise

theorem s0_at (h : Fin 4) (H : Fin 8) (hH : H.val = 0 + h.val) (p : Fin 1024) :
    ((![(View.ld x4 (Rect.unit (s := S1x8x1024) ![0, 0, 0] S1x1x1024.size inb_S1x8x1024_S1x1x1024_0_0_0)), (View.ld x4 (Rect.unit (s := S1x8x1024) ![0, 1, 0] S1x1x1024.size inb_S1x8x1024_S1x1x1024_0_1_0)), (View.ld x4 (Rect.unit (s := S1x8x1024) ![0, 2, 0] S1x1x1024.size inb_S1x8x1024_S1x1x1024_0_2_0)), (View.ld x4 (Rect.unit (s := S1x8x1024) ![0, 3, 0] S1x1x1024.size inb_S1x8x1024_S1x1x1024_0_3_0))] : Fin 4 → Vec Ideal S1x1x1024 .f32) h) (ix3 0 0 p) = x4 (ix3 0 H p) := by
  have h4 : ∀ h : Fin 4, h = 0 ∨ h = 1 ∨ h = 2 ∨ h = 3 := by decide +kernel
  rcases h4 h with rfl | rfl | rfl | rfl
  · show View.ld x4 (Rect.unit (s := S1x8x1024) ![0, 0, 0] S1x1x1024.size inb_S1x8x1024_S1x1x1024_0_0_0) (ix3 0 0 p) = _
    obtain rfl : H = 0 := Fin.ext hH
    pointwise
  · show View.ld x4 (Rect.unit (s := S1x8x1024) ![0, 1, 0] S1x1x1024.size inb_S1x8x1024_S1x1x1024_0_1_0) (ix3 0 0 p) = _
    obtain rfl : H = 1 := Fin.ext hH
    pointwise
  · show View.ld x4 (Rect.unit (s := S1x8x1024) ![0, 2, 0] S1x1x1024.size inb_S1x8x1024_S1x1x1024_0_2_0) (ix3 0 0 p) = _
    obtain rfl : H = 2 := Fin.ext hH
    pointwise
  · show View.ld x4 (Rect.unit (s := S1x8x1024) ![0, 3, 0] S1x1x1024.size inb_S1x8x1024_S1x1x1024_0_3_0) (ix3 0 0 p) = _
    obtain rfl : H = 3 := Fin.ext hH
    pointwise

theorem e0_at (xs : Vec Ideal S416x256 .bf16) (h : Fin 4) (H : Fin 8) (hH : H.val = 0 + h.val) (n' : Fin 104) (n : Fin 100) (hn : n'.val = n.val) (p : Fin 1024) :
    k0_pay48 (codesF x5) (k0_pay33 x2) (View.ld x1 (Rect.unit (s := S1x256x1024) ![0, 0, 0] S1x128x1024.size inb_S1x256x1024_S1x128x1024_0_0_0))
      (left0 x0 (eyed xs)) (ix3 h n' p) = weight2 (imgScore x0 x1 x2 x5 H n) p := by
  have hh := h.isLt
  rw [weights48_at _ _ _ _ h H (by omega)]
  refine congrArg (fun s => weight2 s p) ?_
  funext p
  refine rawScore_eq x0 x1 x2 x5 _ _ 0 h H (by show H.val = 4 * 0 + h.val; omega) n' n hn ?_ ?_ ?_ p
  · intro j
    rw [left0_lo, lhsF_at _ h n' j _ rfl, pay35_at _ n' n hn j ⟨128 * 0 + j.val, by omega⟩ (by show 0 + j.val = _; omega), ld0_eq]
    rfl
  · intro j
    rw [left0_hi, eye_at h n' j _ rfl (by omega), hn]
  · intro j p
    pointwise

theorem v1_at (h : Fin 4) (H : Fin 8) (hH : H.val = 4 + h.val) (d : Fin 32) (p : Fin 1024) :
    ((![(View.ld x3 (Rect.unit (s := S1x256x1024) ![0, 128, 0] S1x32x1024.size inb_S1x256x1024_S1x32x1024_0_128_0)), (View.ld x3 (Rect.unit (s := S1x256x1024) ![0, 160, 0] S1x32x1024.size inb_S1x256x1024_S1x32x1024_0_160_0)), (View.ld x3 (Rect.unit (s := S1x256x1024) ![0, 192, 0] S1x32x1024.size inb_S1x256x1024_S1x32x1024_0_192_0)), (View.ld x3 (Rect.unit (s := S1x256x1024) ![0, 224, 0] S1x32x1024.size inb_S1x256x1024_S1x32x1024_0_224_0))] : Fin 4 → Vec Ideal S1x32x1024 .fp8e4m3) h) (ix3 0 d p) = x3 (ix3 0 ⟨H.val * 32 + d.val, by omega⟩ p) := by
  have hd := d.isLt
  have h4 : ∀ h : Fin 4, h = 0 ∨ h = 1 ∨ h = 2 ∨ h = 3 := by decide +kernel
  rcases h4 h with rfl | rfl | rfl | rfl
  · show View.ld x3 (Rect.unit (s := S1x256x1024) ![0, 128, 0] S1x32x1024.size inb_S1x256x1024_S1x32x1024_0_128_0) (ix3 0 d p) = _
    obtain rfl : H = 4 := Fin.ext hH
    pointwise
  · show View.ld x3 (Rect.unit (s := S1x256x1024) ![0, 160, 0] S1x32x1024.size inb_S1x256x1024_S1x32x1024_0_160_0) (ix3 0 d p) = _
    obtain rfl : H = 5 := Fin.ext hH
    pointwise
  · show View.ld x3 (Rect.unit (s := S1x256x1024) ![0, 192, 0] S1x32x1024.size inb_S1x256x1024_S1x32x1024_0_192_0) (ix3 0 d p) = _
    obtain rfl : H = 6 := Fin.ext hH
    pointwise
  · show View.ld x3 (Rect.unit (s := S1x256x1024) ![0, 224, 0] S1x32x1024.size inb_S1x256x1024_S1x32x1024_0_224_0) (ix3 0 d p) = _
    obtain rfl : H = 7 := Fin.ext hH
    pointwise

theorem s1_at (h : Fin 4) (H : Fin 8) (hH : H.val = 4 + h.val) (p : Fin 1024) :
    ((![(View.ld x4 (Rect.unit (s := S1x8x1024) ![0, 4, 0] S1x1x1024.size inb_S1x8x1024_S1x1x1024_0_4_0)), (View.ld x4 (Rect.unit (s := S1x8x1024) ![0, 5, 0] S1x1x1024.size inb_S1x8x1024_S1x1x1024_0_5_0)), (View.ld x4 (Rect.unit (s := S1x8x1024) ![0, 6, 0] S1x1x1024.size inb_S1x8x1024_S1x1x1024_0_6_0)), (View.ld x4 (Rect.unit (s := S1x8x1024) ![0, 7, 0] S1x1x1024.size inb_S1x8x1024_S1x1x1024_0_7_0))] : Fin 4 → Vec Ideal S1x1x1024 .f32) h) (ix3 0 0 p) = x4 (ix3 0 H p) := by
  have h4 : ∀ h : Fin 4, h = 0 ∨ h = 1 ∨ h = 2 ∨ h = 3 := by decide +kernel
  rcases h4 h with rfl | rfl | rfl | rfl
  · show View.ld x4 (Rect.unit (s := S1x8x1024) ![0, 4, 0] S1x1x1024.size inb_S1x8x1024_S1x1x1024_0_4_0) (ix3 0 0 p) = _
    obtain rfl : H = 4 := Fin.ext hH
    pointwise
  · show View.ld x4 (Rect.unit (s := S1x8x1024) ![0, 5, 0] S1x1x1024.size inb_S1x8x1024_S1x1x1024_0_5_0) (ix3 0 0 p) = _
    obtain rfl : H = 5 := Fin.ext hH
    pointwise
  · show View.ld x4 (Rect.unit (s := S1x8x1024) ![0, 6, 0] S1x1x1024.size inb_S1x8x1024_S1x1x1024_0_6_0) (ix3 0 0 p) = _
    obtain rfl : H = 6 := Fin.ext hH
    pointwise
  · show View.ld x4 (Rect.unit (s := S1x8x1024) ![0, 7, 0] S1x1x1024.size inb_S1x8x1024_S1x1x1024_0_7_0) (ix3 0 0 p) = _
    obtain rfl : H = 7 := Fin.ext hH
    pointwise

theorem e1_at (xs : Vec Ideal S416x256 .bf16) (h : Fin 4) (H : Fin 8) (hH : H.val = 4 + h.val) (n' : Fin 104) (n : Fin 100) (hn : n'.val = n.val) (p : Fin 1024) :
    k0_pay71 (codesF x5) (k0_pay33 x2) (View.ld x1 (Rect.unit (s := S1x256x1024) ![0, 128, 0] S1x128x1024.size inb_S1x256x1024_S1x128x1024_0_128_0))
      (left1 x0 (eyed xs)) (ix3 h n' p) = weight2 (imgScore x0 x1 x2 x5 H n) p := by
  have hh := h.isLt
  rw [weights71_at _ _ _ _ h H (by omega)]
  refine congrArg (fun s => weight2 s p) ?_
  funext p
  refine rawScore_eq x0 x1 x2 x5 _ _ 1 h H (by show H.val = 4 * 1 + h.val; omega) n' n hn ?_ ?_ ?_ p
  · intro j
    rw [left1_lo, lhsF_at _ h n' j _ rfl, pay64_at _ n' n hn j ⟨128 * 1 + j.val, by omega⟩ (by show 128 + j.val = _; omega), ld0_eq]
    rfl
  · intro j
    rw [left1_hi, eye_at h n' j _ rfl (by omega), hn]
  · intro j p
    pointwise

/-- The block one point computes, at a query below one hundred: the image's outputs. -/
theorem blockF_at (xs : Vec Ideal S416x256 .bf16) (n' : Fin 104) (n : Fin 100) (hn : n'.val = n.val) (H : Fin 8) (d : Fin 32) :
    blockF x1 x2 x3 x4 x5 (left0 x0 (eyed xs)) (left1 x0 (eyed xs)) (ix3 n' 0 ⟨H.val * 32 + d.val, by omega⟩) = imgOut x0 x1 x2 x3 x4 x5 H n d := by
  have hd := d.isLt
  have e0 : View.ld (left0 x0 (eyed xs)) (Rect.unit (s := S416x256) ![0, 0] S416x256.size inb_S416x256_S416x256_0_0) = left0 x0 (eyed xs) := by
    funext i
    obtain ⟨a, b, rfl⟩ : ∃ a b, i = ix2 a b := ⟨i 0, i 1, eq_ix2 i⟩
    pointwise
  have e1 : View.ld (left1 x0 (eyed xs)) (Rect.unit (s := S416x256) ![0, 0] S416x256.size inb_S416x256_S416x256_0_0) = left1 x0 (eyed xs) := by
    funext i
    obtain ⟨a, b, rfl⟩ : ∃ a b, i = ix2 a b := ⟨i 0, i 1, eq_ix2 i⟩
    pointwise
  unfold blockF bothF
  rw [ld5_eq, ld2_eq, e0, e1]
  pointwise
  by_cases h : H.val * 32 + d.val < 128
  · rw [dif_pos h]
    rw [group0_at _ _ _ _ _ _ _ _ _ _ _ _ n' _ ⟨H.val, by omega⟩ d (by show H.val * 32 + d.val = 32 * H.val + d.val; omega)]
    refine headOut_eq x0 x1 x2 x3 x4 x5 _ _ _ _ H n' n d (fun p => ?_) (fun p => ?_) (fun p => ?_)
    · exact e0_at x0 x1 x2 x5 xs _ H (by show H.val = 0 + H.val; omega) n' n hn p
    · exact v0_at x3 _ H (by show H.val = 0 + H.val; omega) d p
    · exact s0_at x4 _ H (by show H.val = 0 + H.val; omega) p
  · rw [dif_neg h]
    rw [group1_at _ _ _ _ _ _ _ _ _ _ _ _ n' _ ⟨H.val - 4, by omega⟩ d (by show H.val * 32 + d.val - 128 = 32 * (H.val - 4) + d.val; omega)]
    refine headOut_eq x0 x1 x2 x3 x4 x5 _ _ _ _ H n' n d (fun p => ?_) (fun p => ?_) (fun p => ?_)
    · exact e1_at x0 x1 x2 x5 xs _ H (by show H.val = 4 + (H.val - 4); omega) n' n hn p
    · exact v1_at x3 _ H (by show H.val = 4 + (H.val - 4); omega) d p
    · exact s1_at x4 _ H (by show H.val = 4 + (H.val - 4); omega) p
end

end Cert.KernelIdeal.Gen

end
-- ==== Proof.Attention.Result.lean ====
/- The idealized kernel's result array as a function of its arguments, and its run with that result. -/
module

public import proofs.«01_k».proof.Proof.Attention.Values
public import proofs.«01_k».proof.Proof.Attention.Scores
public import Idealize.ShloMosaic.Lib.Pipeline.ValueKit.Geometry
public import Idealize.ShloMosaic.Lib.Claim

@[expose] public section

set_option maxRecDepth 16384

noncomputable section

namespace Cert.KernelIdeal.Gen

open Idealize.ShloMosaic Idealize.ShloMosaic.TcCoe Idealize.ShloMosaic.Tactic Idealize.SL Idealize.SL.Sem

variable (m : (ℓ : Loc nD τ sig) → Buf (Elt Ideal) ℓ) (ρ : Dev nD → PrngReg)

/-! ## The result array, in terms of the arguments -/

section
variable (a0 : Vec Ideal S40x100x8x32 .bf16) (a1 : Vec Ideal S40x1024x8x32 .fp8e4m3) (a2 : Vec Ideal S40x1024x8 .f32)
  (a3 : Vec Ideal S40x1024x8x32 .fp8e4m3) (a4 : Vec Ideal S40x1024x8 .f32) (a5 : Vec Ideal S40x100x32 .i32)

/-- Pixel `p` of image `b` is masked for query `n`: the query's words are not all zero and the pixel's bit is clear. -/
def MaskedPixel (b : Fin 40) (n : Fin 100) (p : Fin 1024) : Prop :=
  (¬ ∀ a : Fin 32, a5 (ix3 b n a) = 0#32) ∧ (a5 (ix3 b n ⟨p.val / 32, by omega⟩)).getLsbD (p.val % 32) = false

open Classical in
/-- What the mask adds to a score. -/
def maskAt (b : Fin 40) (n : Fin 100) (p : Fin 1024) : EReal := if MaskedPixel a5 b n p then ⊥ else 0

/-- The score as the kernel has it. -/
def scoreAt (b : Fin 40) (n : Fin 100) (H : Fin 8) (p : Fin 1024) : EReal :=
  ((∑ d : Fin 32, a0 (ix4 b n H d) * a1 (ix4 b p H d)) + maskAt a5 b n p) * (a2 (ix3 b p H) * scoreScale)

/-- The output as the kernel has it. -/
def outAt (b : Fin 40) (n : Fin 100) (H : Fin 8) (d : Fin 32) : EReal :=
  Ideal.div (∑ p : Fin 1024, a3 (ix4 b p H d) * a4 (ix3 b p H) * weight2 (scoreAt a0 a1 a2 a5 b n H) p)
    (∑ p : Fin 1024, weight2 (scoreAt a0 a1 a2 a5 b n H) p)
end

theorem V_main_v1 (c : Dev nD) : V m c main_v1 = shapeCast S40x256x100 (transpose S40x8x32x100 [0, 2, 3, 1] (m ((c.tc : Thread nD τ).loc main_arg0)) transposes_S40x100x8x32_S40x8x32x100_0_2_3_1) shapeCasts_S40x8x32x100_S40x256x100 := by
  change StableHlo.after hostOps0 (fun b => m (c, b)) (Proc.devRef .tc main_v1) = _
  delta hostOps0
  after_results
  try rfl

theorem V_main_v3 (c : Dev nD) : V m c main_v3 = shapeCast S40x256x1024 (transpose S40x8x32x1024 [0, 2, 3, 1] (m ((c.tc : Thread nD τ).loc main_arg1)) transposes_S40x1024x8x32_S40x8x32x1024_0_2_3_1) shapeCasts_S40x8x32x1024_S40x256x1024 := by
  change StableHlo.after hostOps0 (fun b => m (c, b)) (Proc.devRef .tc main_v3) = _
  delta hostOps0
  after_results
  try rfl

theorem V_main_v5 (c : Dev nD) : V m c main_v5 = shapeCast S40x256x1024 (transpose S40x8x32x1024 [0, 2, 3, 1] (m ((c.tc : Thread nD τ).loc main_arg3)) transposes_S40x1024x8x32_S40x8x32x1024_0_2_3_1) shapeCasts_S40x8x32x1024_S40x256x1024 := by
  change StableHlo.after hostOps0 (fun b => m (c, b)) (Proc.devRef .tc main_v5) = _
  delta hostOps0
  after_results
  try rfl

theorem V_main_v6 (c : Dev nD) : V m c main_v6 = transpose S40x8x1024 [0, 2, 1] (m ((c.tc : Thread nD τ).loc main_arg2)) transposes_S40x1024x8_S40x8x1024_0_2_1 := by
  change StableHlo.after hostOps0 (fun b => m (c, b)) (Proc.devRef .tc main_v6) = _
  delta hostOps0
  after_results
  try rfl

theorem V_main_v7 (c : Dev nD) : V m c main_v7 = transpose S40x8x1024 [0, 2, 1] (m ((c.tc : Thread nD τ).loc main_arg4)) transposes_S40x1024x8_S40x8x1024_0_2_1 := by
  change StableHlo.after hostOps0 (fun b => m (c, b)) (Proc.devRef .tc main_v7) = _
  delta hostOps0
  after_results
  try rfl

theorem V_main_v8 (c : Dev nD) : V m c main_v8 = transpose S40x32x100 [0, 2, 1] (m ((c.tc : Thread nD τ).loc main_arg5)) transposes_S40x100x32_S40x32x100_0_2_1 := by
  change StableHlo.after hostOps0 (fun b => m (c, b)) (Proc.devRef .tc main_v8) = _
  delta hostOps0
  after_results
  try rfl

theorem arrRef_inj0 : Function.Injective (Pipeline.arrRef spec0) := by decide

theorem result_after (c : Dev nD) : Pipeline.afterTail₀ cfgs (dats m) 0 (V0 m) [hostOps1] c main_v10
    = transpose S40x100x256 [1, 0, 2] ((dats m 0 c).arrAt 6 cfg0.N) transposes_S100x40x256_S40x100x256_1_0_2 := by
  change StableHlo.after hostOps1 (Pipeline.withArrays spec0 c (V0 m c) fun w => (dats m 0 c).arrAt w cfg0.N) (Proc.devRef .tc main_v10) = _
  delta hostOps1
  after_results
  exact congrArg (fun x => transpose S40x100x256 [1, 0, 2] x transposes_S100x40x256_S40x100x256_1_0_2)
    (Pipeline.withArrays_arr spec0 arrRef_inj0 c (V0 m c) (fun w => (dats m 0 c).arrAt w cfg0.N) 6)

theorem index_out : ∀ t : Fin cfg0.N, win0_6.index t = ![0, t.val / 8, 0] := (by decide +kernel : ∀ t : Fin grid0.N, _)
theorem index_in0 : ∀ t : Fin cfg0.N, win0_0.index t = ![t.val, 0, 0] := (by decide +kernel : ∀ t : Fin grid0.N, _)
theorem index_in1 : ∀ t : Fin cfg0.N, win0_1.index t = ![t.val, 0, 0] := (by decide +kernel : ∀ t : Fin grid0.N, _)
theorem index_in2 : ∀ t : Fin cfg0.N, win0_2.index t = ![t.val, 0, 0] := (by decide +kernel : ∀ t : Fin grid0.N, _)
theorem index_in3 : ∀ t : Fin cfg0.N, win0_3.index t = ![t.val, 0, 0] := (by decide +kernel : ∀ t : Fin grid0.N, _)
theorem index_in4 : ∀ t : Fin cfg0.N, win0_4.index t = ![t.val, 0, 0] := (by decide +kernel : ∀ t : Fin grid0.N, _)
theorem index_in5 : ∀ t : Fin cfg0.N, win0_5.index t = ![t.val, 0, 0] := (by decide +kernel : ∀ t : Fin grid0.N, _)

/-- A point's image. -/
def imageOf (t : Fin cfg0.N) : Fin 40 := ⟨t.val, lt_of_lt_of_eq t.isLt N_0⟩

theorem iblk0_at (c : Dev nD) (t : Fin cfg0.N) (H : Fin 8) (d : Fin 32) (n : Fin 100) :
    iblk m c 0 t (ix3 0 ⟨H.val * 32 + d.val, by omega⟩ n) = (m ((c.tc : Thread nD τ).loc main_arg0) : Vec Ideal S40x100x8x32 _) (ix4 (imageOf t) n H d) := by
  have e : (win0_0.blk t).view.emb (ix3 0 ⟨H.val * 32 + d.val, by omega⟩ n) = (ix3 (imageOf t) ⟨H.val * 32 + d.val, by omega⟩ n : S40x256x100.Idx) := by
    blk_ext [index_in0 t, imageOf]
  blk_simp [iblk]
  rw [e]
  show V m c main_v1 (ix3 (imageOf t) ⟨H.val * 32 + d.val, by omega⟩ n) = _
  rw [V_main_v1]
  pointwise

theorem iblk1_at (c : Dev nD) (t : Fin cfg0.N) (H : Fin 8) (d : Fin 32) (n : Fin 1024) :
    iblk m c 1 t (ix3 0 ⟨H.val * 32 + d.val, by omega⟩ n) = (m ((c.tc : Thread nD τ).loc main_arg1) : Vec Ideal S40x1024x8x32 _) (ix4 (imageOf t) n H d) := by
  have e : (win0_1.blk t).view.emb (ix3 0 ⟨H.val * 32 + d.val, by omega⟩ n) = (ix3 (imageOf t) ⟨H.val * 32 + d.val, by omega⟩ n : S40x256x1024.Idx) := by
    blk_ext [index_in1 t, imageOf]
  blk_simp [iblk]
  rw [e]
  show V m c main_v3 (ix3 (imageOf t) ⟨H.val * 32 + d.val, by omega⟩ n) = _
  rw [V_main_v3]
  pointwise

theorem iblk3_at (c : Dev nD) (t : Fin cfg0.N) (H : Fin 8) (d : Fin 32) (n : Fin 1024) :
    iblk m c 3 t (ix3 0 ⟨H.val * 32 + d.val, by omega⟩ n) = (m ((c.tc : Thread nD τ).loc main_arg3) : Vec Ideal S40x1024x8x32 _) (ix4 (imageOf t) n H d) := by
  have e : (win0_3.blk t).view.emb (ix3 0 ⟨H.val * 32 + d.val, by omega⟩ n) = (ix3 (imageOf t) ⟨H.val * 32 + d.val, by omega⟩ n : S40x256x1024.Idx) := by
    blk_ext [index_in3 t, imageOf]
  blk_simp [iblk]
  rw [e]
  show V m c main_v5 (ix3 (imageOf t) ⟨H.val * 32 + d.val, by omega⟩ n) = _
  rw [V_main_v5]
  pointwise

theorem iblk2_at (c : Dev nD) (t : Fin cfg0.N) (H : Fin 8) (n : Fin 1024) :
    iblk m c 2 t (ix3 0 H n) = (m ((c.tc : Thread nD τ).loc main_arg2) : Vec Ideal S40x1024x8 _) (ix3 (imageOf t) n H) := by
  have e : (win0_2.blk t).view.emb (ix3 0 H n) = (ix3 (imageOf t) H n : S40x8x1024.Idx) := by
    blk_ext [index_in2 t, imageOf]
  blk_simp [iblk]
  rw [e]
  show V m c main_v6 (ix3 (imageOf t) H n) = _
  rw [V_main_v6]
  pointwise

theorem iblk4_at (c : Dev nD) (t : Fin cfg0.N) (H : Fin 8) (n : Fin 1024) :
    iblk m c 4 t (ix3 0 H n) = (m ((c.tc : Thread nD τ).loc main_arg4) : Vec Ideal S40x1024x8 _) (ix3 (imageOf t) n H) := by
  have e : (win0_4.blk t).view.emb (ix3 0 H n) = (ix3 (imageOf t) H n : S40x8x1024.Idx) := by
    blk_ext [index_in4 t, imageOf]
  blk_simp [iblk]
  rw [e]
  show V m c main_v7 (ix3 (imageOf t) H n) = _
  rw [V_main_v7]
  pointwise

theorem iblk5_at (c : Dev nD) (t : Fin cfg0.N) (H : Fin 32) (n : Fin 100) :
    iblk m c 5 t (ix3 0 H n) = (m ((c.tc : Thread nD τ).loc main_arg5) : Vec Ideal S40x100x32 _) (ix3 (imageOf t) n H) := by
  have e : (win0_5.blk t).view.emb (ix3 0 H n) = (ix3 (imageOf t) H n : S40x32x100.Idx) := by
    blk_ext [index_in5 t, imageOf]
  blk_simp [iblk]
  rw [e]
  show V m c main_v8 (ix3 (imageOf t) H n) = _
  rw [V_main_v8]
  pointwise

section
variable (c : Dev nD) (t : Fin cfg0.N)

theorem maskTerm_iblk (n : Fin 100) (p : Fin 1024) : maskTerm (iblk m c 5 t) n p = maskAt (m ((c.tc : Thread nD τ).loc main_arg5)) (imageOf t) n p := by
  have e : Masked (iblk m c 5 t) n ⟨p.val / 32, by omega⟩ p.val ↔ MaskedPixel (m ((c.tc : Thread nD τ).loc main_arg5)) (imageOf t) n p := by
    unfold Masked MaskedPixel
    simp only [iblk5_at]
  unfold maskTerm maskAt
  by_cases h : MaskedPixel (m ((c.tc : Thread nD τ).loc main_arg5)) (imageOf t) n p
  · rw [if_pos h, if_pos (e.mpr h)]
  · rw [if_neg h, if_neg (fun h' => h (e.mp h'))]

theorem imgScore_iblk (H : Fin 8) (n : Fin 100) : imgScore (iblk m c 0 t) (iblk m c 1 t) (iblk m c 2 t) (iblk m c 5 t) H n = scoreAt (m ((c.tc : Thread nD τ).loc main_arg0)) (m ((c.tc : Thread nD τ).loc main_arg1)) (m ((c.tc : Thread nD τ).loc main_arg2)) (m ((c.tc : Thread nD τ).loc main_arg5)) (imageOf t) n H := by
  funext p
  unfold imgScore scoreAt
  simp only [iblk0_at, iblk1_at, iblk2_at, maskTerm_iblk]

theorem imgOut_iblk (H : Fin 8) (n : Fin 100) (d : Fin 32) : imgOut (iblk m c 0 t) (iblk m c 1 t) (iblk m c 2 t) (iblk m c 3 t) (iblk m c 4 t) (iblk m c 5 t) H n d
    = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (imageOf t) n H d := by
  unfold imgOut outAt
  simp only [imgScore_iblk, iblk3_at, iblk4_at]

/-- The result array's contents. -/
def resultAt : Vec Ideal S40x100x256 .bf16 := fun i =>
  outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) ⟨(i 2).val / 32, by have h : (i 2).val < 256 := (i 2).isLt; omega⟩ ⟨(i 2).val % 32, Nat.mod_lt _ (by decide)⟩

theorem final_o : (dats m 0 c).arrAt 6 cfg0.N
    = fun i : S100x40x256.Idx => resultAt m c (ix3 (i 1) (i 0) (i 2)) := by
  refine (dats m 0 c).arrAt_eq_of_covers 6 _ (by decide +kernel) fun t hf y => ?_
  blk_simp
  rw [after0_6]
  obtain ⟨a, s, ch, rfl⟩ : ∃ (a : Fin 100) (s : Fin 8) (ch : Fin 256), y = ix3 a s ch := ⟨y 0, y 1, y 2, eq_ix3 y⟩
  have ht : t.val < 40 := lt_of_lt_of_eq t.isLt N_0
  have hs := s.isLt
  have hch := ch.isLt
  have e : (win0_6.blk t).view.emb (ix3 a s ch) = (ix3 a ⟨8 * (t.val / 8) + s.val, by omega⟩ ch : S100x40x256.Idx) := by
    blk_ext [index_out t]
  rw [e]
  show pointRows m c (groupPt t.val _ s) (ix3 (Fin.castLE _ a) (0 : Fin 1) ch) = resultAt m c (ix3 ⟨8 * (t.val / 8) + s.val, _⟩ a ch)
  have hc : ch = ⟨(⟨ch.val / 32, by omega⟩ : Fin 8).val * 32 + (⟨ch.val % 32, Nat.mod_lt _ (by decide)⟩ : Fin 32).val, by show ch.val / 32 * 32 + ch.val % 32 < 256; omega⟩ :=
    Fin.ext (by show ch.val = ch.val / 32 * 32 + ch.val % 32; omega)
  unfold pointRows
  conv_lhs => rw [hc]
  rw [blockF_at _ _ _ _ _ _ _ _ a rfl, imgOut_iblk]
  rfl

/-- The run, read: the result array as the arguments have it, the arguments unchanged. -/
theorem value_run : θ_run defs (onTc (τ := τ) (main (F := Ideal))) ⟨m, fun _ => 0, ρ⟩ (fun r => ∀ c : Dev nD,
      r.2.mem ((c.tc : Thread nD τ).loc main_v10) = resultAt m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) := by
  have h1 : θ_run defs (onTc (τ := τ) (main (F := Ideal))) ⟨m, fun _ => 0, ρ⟩ (fun r => ∀ c : Dev nD, r.2.mem ((c.tc : Thread nD τ).loc main_v10) = resultAt m c) :=
    (θ_run defs _ _).mono (fun _ h c => by
      refine ((h c).2 main_v10 (Pipeline.mem_restRefs_of main_v10 (by decide) (by decide))).trans ?_
      rw [result_after, final_o]
      funext i
      obtain ⟨b, n, ch, rfl⟩ : ∃ (b : Fin 40) (n : Fin 100) (ch : Fin 256), i = ix3 b n ch := ⟨i 0, i 1, i 2, eq_ix3 i⟩
      pointwise) (run_main m ρ)
  exact (θ_run defs _ _).mono (fun _ h c => ⟨h.1 c, h.2 c⟩) (θ_run_and h1 (unchanged m ρ))
end

end Cert.KernelIdeal.Gen

end
-- ==== Proof.Attention.Reference.lean ====
/- The reference's result array as a function of its arguments, and its run with that result. -/
module

public import proofs.«01_k».proof.Proof.Gen.ReferenceIdeal.Frame
public import Idealize.ShloMosaic.Lib.Pointwise
public import Idealize.ShloMosaic.Lib.Pipeline.ValueKit.Geometry
public import Idealize.ShloMosaic.Lib.Claim

@[expose] public section

set_option maxRecDepth 16384

noncomputable section

namespace Cert.ReferenceIdeal.Gen

open Idealize.ShloMosaic Idealize.ShloMosaic.TcCoe Idealize.ShloMosaic.Tactic Idealize.SL Idealize.SL.Sem

variable (m : (ℓ : Loc nD τ sig) → Buf (Elt Ideal) ℓ) (ρ : Dev nD → PrngReg)

/-! ## The reference's value -/

/-- The pixels that may be attended to: the bit is set, or all of the query's words are zero. -/
def attendR (a5 : IVec S40x100x32 32) : IVec S40x100x1024 1 :=
  ori (shapeCast S40x100x1024 (cmpi .ne (andi (Host.shrui (broadcastInDim S40x100x32x32 ![0, 1, 2, 3] bcast_S40x100x32x1_S40x100x32x32_0_1_2_3 (broadcastInDim S40x100x32x1 ![0, 1, 2] bcast_S40x100x32_S40x100x32x1_0_1_2 a5))
        (broadcastInDim S40x100x32x32 ![0, 1, 2, 3] bcast_S1x1x1x32_S40x100x32x32_0_1_2_3 (broadcastInDim S1x1x1x32 ![3] bcast_S32_S1x1x1x32_3 (iotaInDim S32 32 0))))
        (broadcastInDim S40x100x32x32 ![] bcast_S_S40x100x32x32 (constantI S_ 32 1#32)))
        (broadcastInDim S40x100x32x32 ![] bcast_S_S40x100x32x32 (constantI S_ 32 0#32))) shapeCasts_S40x100x32x32_S40x100x1024)
    (broadcastInDim S40x100x1024 ![0, 1, 2] bcast_S40x100x1_S40x100x1024_0_1_2 (broadcastInDim S40x100x1 ![0, 1] bcast_S40x100_S40x100x1_0_1
      (Host.reduce IntOp.andi (cmpi .eq a5 (broadcastInDim S40x100x32 ![] bcast_S_S40x100x32 (constantI S_ 32 0#32))) (constantI S_ 1 1#1) reducesTo_S40x100x32_S40x100_d2 h_S_)))

/-- The scaled products. -/
def productR (a0 : FVec Ideal S40x100x8x32 .bf16) (b1 : FVec Ideal S40x1024x8x32 .bf16) (a2 : FVec Ideal S40x1024x8 .f32) : FVec Ideal S40x8x100x1024 .f32 :=
  mulf (Host.dotGeneral dot_S40x100x8x32_S40x1024x8x32_S40x8x100x1024_3_3_1_1_02_02 none a0 b1)
    (broadcastInDim S40x8x100x1024 ![0, 1, 2, 3] bcast_S40x8x1x1024_S40x8x100x1024_0_1_2_3 (broadcastInDim S40x8x1x1024 ![0, 1, 3] bcast_S40x8x1024_S40x8x1x1024_0_1_3
      (transpose S40x8x1024 [0, 2, 1] (mulf a2 (broadcastInDim S40x1024x8 ![] bcast_S_S40x1024x8 (constant (F := Ideal) S_ .f32 0x3E3504F3#32))) transposes_S40x1024x8_S40x8x1024_0_2_1)))

/-- The scores: the scaled products where attended to, minus infinity elsewhere. -/
def scoreR (k : IVec S40x1x100x1024 1) (s : FVec Ideal S40x8x100x1024 .f32) (z : FVec Ideal S_ .f32) : FVec Ideal S40x8x100x1024 .f32 :=
  select (broadcastInDim S40x8x100x1024 ![0, 1, 2, 3] bcast_S40x1x100x1024_S40x8x100x1024_0_1_2_3 k) s (broadcastInDim S40x8x100x1024 ![] bcast_S_S40x8x100x1024 z)

/-- The weights: the exponentials of the scores less the row's largest. -/
def weightR (s : FVec Ideal S40x8x100x1024 .f32) : FVec Ideal S40x8x100x1024 .f32 :=
  Host.exp (subf s (broadcastInDim S40x8x100x1024 ![0, 1, 2, 3] bcast_S40x8x100x1_S40x8x100x1024_0_1_2_3 (broadcastInDim S40x8x100x1 ![0, 1, 2] bcast_S40x8x100_S40x8x100x1_0_1_2
    (Host.reduce FloatOps.maximumf s (constant (F := Ideal) S_ .f32 0xFF800000#32) reducesTo_S40x8x100x1024_S40x8x100_d3 h_S_))))

/-- The outputs. -/
def outR (e : FVec Ideal S40x8x100x1024 .f32) (b3 : FVec Ideal S40x1024x8x32 .bf16) (a4 : FVec Ideal S40x1024x8 .f32) : FVec Ideal S40x100x256 .bf16 :=
  truncf .bf16 (shapeCast S40x100x256 (Host.divf
    (transpose S40x100x8x32 [0, 3, 1, 2] (Host.dotGeneral dot_S40x1024x8x32_S40x8x100x1024_S40x8x32x100_1_3_3_2_02_01 none b3
      (truncf .bf16 (mulf e (broadcastInDim S40x8x100x1024 ![0, 1, 2, 3] bcast_S40x8x1x1024_S40x8x100x1024_0_1_2_3 (broadcastInDim S40x8x1x1024 ![0, 1, 3] bcast_S40x8x1024_S40x8x1x1024_0_1_3
        (transpose S40x8x1024 [0, 2, 1] a4 transposes_S40x1024x8_S40x8x1024_0_2_1)))) bitsLt_bf16_f32)) transposes_S40x8x32x100_S40x100x8x32_0_3_1_2)
    (broadcastInDim S40x100x8x32 ![0, 1, 2, 3] bcast_S40x100x8x1_S40x100x8x32_0_1_2_3 (broadcastInDim S40x100x8x1 ![0, 1, 2] bcast_S40x100x8_S40x100x8x1_0_1_2
      (transpose S40x100x8 [0, 2, 1] (Host.reduceAdd e (constant (F := Ideal) S_ .f32 0x00000000#32) reducesTo_S40x8x100x1024_S40x8x100_d3 h_S_) transposes_S40x8x100_S40x100x8_0_2_1))))
    shapeCasts_S40x100x8x32_S40x100x256) bitsLt_bf16_f32

section
variable (V : Valuation τ sig (Elt Ideal))

theorem last_v47 : StableHlo.after hostOps1_2 V (Proc.devRef .tc main_v47) = outR (weightR (V (Proc.devRef .tc main_v28))) (V (Proc.devRef .tc main_v0_1)) (V (Proc.devRef .tc main_arg4)) := by
  delta hostOps1_2
  after_results
  rfl
theorem mid_v28 : StableHlo.after hostOps1_1 V (Proc.devRef .tc main_v28) = scoreR (V (Proc.devRef .tc main_v27)) (V (Proc.devRef .tc main_v26)) (V (Proc.devRef .tc main_cst_3)) := by
  delta hostOps1_1
  after_results
  rfl
theorem mid_v0_1 : StableHlo.after hostOps1_1 V (Proc.devRef .tc main_v0_1) = V (Proc.devRef .tc main_v0_1) := by
  delta hostOps1_1
  after_results
theorem mid_arg4 : StableHlo.after hostOps1_1 V (Proc.devRef .tc main_arg4) = V (Proc.devRef .tc main_arg4) := by
  delta hostOps1_1
  after_results
theorem first_v27 : StableHlo.after hostOps1 V (Proc.devRef .tc main_v27) = broadcastInDim S40x1x100x1024 ![0, 2, 3] bcast_S40x100x1024_S40x1x100x1024_0_2_3 (attendR (V (Proc.devRef .tc main_arg5))) := by
  delta hostOps1
  after_results
  rfl
theorem first_v26 : StableHlo.after hostOps1 V (Proc.devRef .tc main_v26) = productR (V (Proc.devRef .tc main_arg0)) (V (Proc.devRef .tc main_v0_0)) (V (Proc.devRef .tc main_arg2)) := by
  delta hostOps1
  after_results
  rfl
theorem first_cst_3 : StableHlo.after hostOps1 V (Proc.devRef .tc main_cst_3) = constant (F := Ideal) S_ .f32 0xFF800000#32 := by
  delta hostOps1
  after_results
theorem first_v0_1 : StableHlo.after hostOps1 V (Proc.devRef .tc main_v0_1) = V (Proc.devRef .tc main_v0_1) := by
  delta hostOps1
  after_results
theorem first_arg4 : StableHlo.after hostOps1 V (Proc.devRef .tc main_arg4) = V (Proc.devRef .tc main_arg4) := by
  delta hostOps1
  after_results
end

theorem arrRef_inj0 : Function.Injective (Pipeline.arrRef spec0) := by decide
theorem index_w0 : ∀ t : Fin cfg0.N, win0_0.index t = ![0, 0, 0, 0] := (by decide +kernel : ∀ t : Fin grid0.N, _)
theorem index_w1 : ∀ t : Fin cfg0.N, win0_1.index t = ![0, 0, 0, 0] := (by decide +kernel : ∀ t : Fin grid0.N, _)
theorem index_w3 : ∀ t : Fin cfg0.N, win0_3.index t = ![0, 0, 0, 0] := (by decide +kernel : ∀ t : Fin grid0.N, _)
theorem zero4 : (![0, 0, 0, 0] : Fin 4 → Nat) = fun _ => 0 := by decide
theorem index_w2 : ∀ t : Fin cfg0.N, win0_2.index t = ![0, 0, 0, 0] := (by decide +kernel : ∀ t : Fin grid0.N, _)
/-- The key codes, widened. -/
theorem wide_k (c : Dev nD) : (dats m 0 c).arrAt 2 cfg0.N = (m ((c.tc : Thread nD τ).loc main_arg1) : S40x1024x8x32.Idx → EReal) := by
  refine (dats m 0 c).arrAt_eq_of_covers 2 _ (by decide +kernel) fun t hf y => ?_
  blk_simp
  rw [after0_2]
  unfold out0_2
  rw [View.canon_unit_zero zero4, View.ld_unit_zero zero4]
  unfold k0_pay1
  pointwise
  blk_simp [iblk]
  refine congrArg (m ((c.tc : Thread nD τ).loc main_arg1)) ?_
  blk_ext [index_w0, index_w2]
/-- The value codes, widened. -/
theorem wide_v (c : Dev nD) : (dats m 0 c).arrAt 3 cfg0.N = (m ((c.tc : Thread nD τ).loc main_arg3) : S40x1024x8x32.Idx → EReal) := by
  refine (dats m 0 c).arrAt_eq_of_covers 3 _ (by decide +kernel) fun t hf y => ?_
  blk_simp
  rw [after0_3]
  unfold out0_3
  rw [View.canon_unit_zero zero4, View.ld_unit_zero zero4]
  unfold k0_pay2
  pointwise
  blk_simp [iblk]
  refine congrArg (m ((c.tc : Thread nD τ).loc main_arg3)) ?_
  blk_ext [index_w1, index_w3]

/-- The result buffer after the host operations that follow the region. -/
theorem result_after (c : Dev nD) : Pipeline.afterTail₀ cfgs (dats m) 0 (V0 m) [hostOps1, hostOps1_1, hostOps1_2] c main_v47
    = outR (weightR (scoreR (broadcastInDim S40x1x100x1024 ![0, 2, 3] bcast_S40x100x1024_S40x1x100x1024_0_2_3 (attendR (m ((c.tc : Thread nD τ).loc main_arg5))))
        (productR (m ((c.tc : Thread nD τ).loc main_arg0)) (m ((c.tc : Thread nD τ).loc main_arg1) : S40x1024x8x32.Idx → EReal) (m ((c.tc : Thread nD τ).loc main_arg2)))
        (constant (F := Ideal) S_ .f32 0xFF800000#32)))
      (m ((c.tc : Thread nD τ).loc main_arg3) : S40x1024x8x32.Idx → EReal) (m ((c.tc : Thread nD τ).loc main_arg4)) := by
  unfold Pipeline.afterTail₀
  rw [show [hostOps1, hostOps1_1, hostOps1_2].flatten = hostOps1 ++ (hostOps1_1 ++ hostOps1_2 (F := Ideal)) from by simp, StableHlo.after_append, StableHlo.after_append,
    last_v47, mid_v28, mid_v0_1, mid_arg4, first_v27, first_v26, first_cst_3, first_v0_1, first_arg4]
  have e0 := Pipeline.withArrays_of_ne spec0 c (V0 m c) (fun w => (dats m 0 c).arrAt w cfg0.N) main_arg0 (by exact (by decide : ∀ w, Pipeline.arrRef spec0 w ≠ main_arg0))
  have e2 := Pipeline.withArrays_of_ne spec0 c (V0 m c) (fun w => (dats m 0 c).arrAt w cfg0.N) main_arg2 (by exact (by decide : ∀ w, Pipeline.arrRef spec0 w ≠ main_arg2))
  have e4 := Pipeline.withArrays_of_ne spec0 c (V0 m c) (fun w => (dats m 0 c).arrAt w cfg0.N) main_arg4 (by exact (by decide : ∀ w, Pipeline.arrRef spec0 w ≠ main_arg4))
  have e5 := Pipeline.withArrays_of_ne spec0 c (V0 m c) (fun w => (dats m 0 c).arrAt w cfg0.N) main_arg5 (by exact (by decide : ∀ w, Pipeline.arrRef spec0 w ≠ main_arg5))
  have e1 := (Pipeline.withArrays_arr spec0 arrRef_inj0 c (V0 m c) (fun w => (dats m 0 c).arrAt w cfg0.N) 2).trans (wide_k m c)
  have e3 := (Pipeline.withArrays_arr spec0 arrRef_inj0 c (V0 m c) (fun w => (dats m 0 c).arrAt w cfg0.N) 3).trans (wide_v m c)
  refine (congr (congr (congrArg outR (congrArg weightR ?_)) e3) e4)
  refine congr (congrArg₂ scoreR (congrArg _ (congrArg attendR e5)) ?_) rfl
  exact congr (congr (congrArg productR e0) e1) e2

/-! ## Its elements -/

theorem ofBits_negInf : Ideal.ofBits .f32 0xFF800000#32 = ⊥ := by simp [Ideal.ofBits, Ideal.ieee]
theorem ofBits_scale : Ideal.ofBits .f32 0x3E3504F3#32 = ((11863283 / 67108864 : ℝ) : EReal) := by
  simp [Ideal.ofBits, Ideal.ieee, -EReal.coe_mul]
  norm_num

theorem cmpi_eq_one {w : Nat} (x y : BitVec w) : IntOp.cmpi CmpIPredicate.eq x y = 1#1 ↔ x = y := by
  show BitVec.ofBool (x == y) = 1#1 ↔ _
  by_cases h : x = y
  · simp [h]
  · have hb : (x == y) = false := beq_eq_false_iff_ne.mpr h
    rw [hb]; simp [h]
theorem cmpi_ne_one {w : Nat} (x y : BitVec w) : IntOp.cmpi CmpIPredicate.ne x y = 1#1 ↔ x ≠ y := by
  show BitVec.ofBool (x != y) = 1#1 ↔ _
  by_cases h : x = y
  · simp [h]
  · have hb : (x != y) = true := bne_iff_ne.mpr h
    rw [hb]; simp [h]
theorem andi_one (x y : BitVec 1) : IntOp.andi x y = 1#1 ↔ x = 1#1 ∧ y = 1#1 := by
  revert x y; decide +kernel
theorem ori_one (x y : BitVec 1) : IntOp.ori x y = 1#1 ↔ x = 1#1 ∨ y = 1#1 := by
  revert x y; decide +kernel
theorem fold_andi {ι : Type} [DecidableEq ι] (f : ι → BitVec 1) (S : Finset ι) :
    Finset.fold IntOp.andi (1#1) f S = 1#1 ↔ ∀ x ∈ S, f x = 1#1 := by
  induction S using Finset.induction_on with
  | empty => simp
  | insert x S hx ih => rw [Finset.fold_insert hx, andi_one, ih, Finset.forall_mem_insert]
theorem bit_shr (w : BitVec 32) (k : Nat) (hk : k < 32) : IntOp.andi (IntOp.shrui ArithUnit.host w (BitVec.ofNat 32 k)) 1#32 ≠ 0#32 ↔ w.getLsbD k = true := by
  have hk2 : (BitVec.ofNat 32 k).toNat = k := by rw [BitVec.toNat_ofNat]; exact Nat.mod_eq_of_lt (by omega)
  have hs : IntOp.shrui ArithUnit.host w (BitVec.ofNat 32 k) = w >>> k := by
    unfold IntOp.shrui
    rw [hk2, if_pos hk, BitVec.ushiftRight_eq', hk2]
  rw [hs]
  show (w >>> k) &&& 1#32 ≠ 0#32 ↔ _
  rw [BitVec.and_one_eq_setWidth_ofBool_getLsbD, BitVec.getLsbD_ushiftRight, Nat.add_zero]
  cases w.getLsbD k <;> decide
theorem bit_or_zero (w : BitVec 32) (k : Nat) (hk : k < 32) (f : Fin 32 → BitVec 32) :
    IntOp.ori (IntOp.cmpi CmpIPredicate.ne (IntOp.andi (IntOp.shrui ArithUnit.host w (BitVec.ofNat 32 k)) 1#32) 0#32)
      (Finset.fold IntOp.andi (1#1) (fun x => IntOp.cmpi CmpIPredicate.eq (f x) 0#32) Finset.univ) = 1#1 ↔ (w.getLsbD k = true ∨ ∀ a, f a = 0#32) := by
  rw [ori_one, cmpi_ne_one, bit_shr w k hk, fold_andi]
  simp only [cmpi_eq_one, Finset.mem_univ, forall_true_left]

theorem weightR_at (s : FVec Ideal S40x8x100x1024 .f32) (b : Fin 40) (H : Fin 8) (n : Fin 100) (p : Fin 1024) :
    weightR s (ix4 b H n p) = Ideal.exp (s (ix4 b H n p) - Finset.univ.fold max ⊥ fun q => s (ix4 b H n q)) := by
  unfold weightR
  pointwise [ofBits_negInf]
theorem outR_at (e : FVec Ideal S40x8x100x1024 .f32) (b3 : FVec Ideal S40x1024x8x32 .bf16) (a4 : FVec Ideal S40x1024x8 .f32) (b : Fin 40) (n : Fin 100) (ch : Fin 256) :
    outR e b3 a4 (ix3 b n ch) = Ideal.div (∑ p : Fin 1024, b3 (ix4 b p ⟨ch / 32, by omega⟩ ⟨ch % 32, by omega⟩) * (e (ix4 b ⟨ch / 32, by omega⟩ n p) * a4 (ix3 b p ⟨ch / 32, by omega⟩))) (∑ p : Fin 1024, e (ix4 b ⟨ch / 32, by omega⟩ n p)) := by
  unfold outR
  pointwise
theorem productR_at (a0 : FVec Ideal S40x100x8x32 .bf16) (b1 : FVec Ideal S40x1024x8x32 .bf16) (a2 : FVec Ideal S40x1024x8 .f32) (b : Fin 40) (H : Fin 8) (n : Fin 100) (p : Fin 1024) :
    productR a0 b1 a2 (ix4 b H n p) = (∑ d : Fin 32, a0 (ix4 b n H d) * b1 (ix4 b p H d)) * (a2 (ix3 b p H) * ((11863283 / 67108864 : ℝ) : EReal)) := by
  unfold productR
  pointwise [ofBits_scale]
theorem scoreR_at (k : IVec S40x100x1024 1) (s : FVec Ideal S40x8x100x1024 .f32) (b : Fin 40) (H : Fin 8) (n : Fin 100) (p : Fin 1024) :
    scoreR (broadcastInDim S40x1x100x1024 ![0, 2, 3] bcast_S40x100x1024_S40x1x100x1024_0_2_3 k) s (constant (F := Ideal) S_ .f32 0xFF800000#32) (ix4 b H n p) = if k (ix3 b n p) = 1#1 then s (ix4 b H n p) else ⊥ := by
  unfold scoreR
  pointwise [ofBits_negInf]
  rfl
theorem attendR_at (a5 : IVec S40x100x32 32) (b : Fin 40) (n : Fin 100) (p : Fin 1024) :
    attendR a5 (ix3 b n p) = 1#1 ↔ ((a5 (ix3 b n ⟨p / 32, by omega⟩)).getLsbD (p % 32) = true ∨ ∀ a : Fin 32, a5 (ix3 b n a) = 0#32) := by
  unfold attendR
  pointwise
  exact bit_or_zero (a5 (ix3 b n ⟨p / 32, by omega⟩)) (p % 32) (Nat.mod_lt _ (by decide)) fun x => a5 (ix3 b n x)

/-! ## The result, read -/

/-- The pixel may be attended to. -/
def Attended (a5 : IVec S40x100x32 32) (b : Fin 40) (n : Fin 100) (p : Fin 1024) : Prop :=
  (a5 (ix3 b n ⟨p / 32, by omega⟩)).getLsbD (p % 32) = true ∨ ∀ a : Fin 32, a5 (ix3 b n a) = 0#32

open Classical in
/-- The reference's score. -/
def refScore (a0 : Vec Ideal S40x100x8x32 .bf16) (a1 : Vec Ideal S40x1024x8x32 .fp8e4m3) (a2 : Vec Ideal S40x1024x8 .f32) (a5 : IVec S40x100x32 32) (b : Fin 40) (n : Fin 100) (H : Fin 8) (p : Fin 1024) : EReal :=
  if Attended a5 b n p then (∑ d : Fin 32, a0 (ix4 b n H d) * a1 (ix4 b p H d)) * (a2 (ix3 b p H) * ((11863283 / 67108864 : ℝ) : EReal)) else ⊥

/-- The exponential of a score less the row's largest. -/
def weightE (s : Fin 1024 → EReal) (p : Fin 1024) : EReal := Ideal.exp (s p - Finset.univ.fold max ⊥ s)

/-- The reference's output. -/
def refAt (a0 : Vec Ideal S40x100x8x32 .bf16) (a1 : Vec Ideal S40x1024x8x32 .fp8e4m3) (a2 : Vec Ideal S40x1024x8 .f32) (a3 : Vec Ideal S40x1024x8x32 .fp8e4m3) (a4 : Vec Ideal S40x1024x8 .f32) (a5 : IVec S40x100x32 32) (b : Fin 40) (n : Fin 100) (H : Fin 8) (d : Fin 32) : EReal :=
  Ideal.div (∑ p : Fin 1024, a3 (ix4 b p H d) * (weightE (refScore a0 a1 a2 a5 b n H) p * a4 (ix3 b p H))) (∑ p : Fin 1024, weightE (refScore a0 a1 a2 a5 b n H) p)

/-- The result array, as the arguments have it. -/
def resultAt (c : Dev nD) : Vec Ideal S40x100x256 .bf16 := fun i =>
  refAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (i 0) (i 1) ⟨(i 2) / 32, Nat.div_lt_of_lt_mul (i 2).isLt⟩ ⟨(i 2) % 32, Nat.mod_lt _ (by decide)⟩

open Classical in
theorem rowR_at (a0 : Vec Ideal S40x100x8x32 .bf16) (a1 : Vec Ideal S40x1024x8x32 .fp8e4m3) (a2 : Vec Ideal S40x1024x8 .f32) (a5 : IVec S40x100x32 32) (b : Fin 40) (H : Fin 8) (n : Fin 100) (p : Fin 1024) :
    scoreR (broadcastInDim S40x1x100x1024 ![0, 2, 3] bcast_S40x100x1024_S40x1x100x1024_0_2_3 (attendR a5)) (productR a0 (a1 : S40x1024x8x32.Idx → EReal) a2) (constant (F := Ideal) S_ .f32 0xFF800000#32) (ix4 b H n p) = refScore a0 a1 a2 a5 b n H p := by
  rw [scoreR_at, productR_at]
  exact if_congr (attendR_at a5 b n p) rfl rfl

theorem weightRow_at (a0 : Vec Ideal S40x100x8x32 .bf16) (a1 : Vec Ideal S40x1024x8x32 .fp8e4m3) (a2 : Vec Ideal S40x1024x8 .f32) (a5 : IVec S40x100x32 32) (b : Fin 40) (H : Fin 8) (n : Fin 100) (p : Fin 1024) :
    weightR (scoreR (broadcastInDim S40x1x100x1024 ![0, 2, 3] bcast_S40x100x1024_S40x1x100x1024_0_2_3 (attendR a5)) (productR a0 (a1 : S40x1024x8x32.Idx → EReal) a2) (constant (F := Ideal) S_ .f32 0xFF800000#32)) (ix4 b H n p) = weightE (refScore a0 a1 a2 a5 b n H) p := by
  rw [weightR_at]
  exact congrArg Ideal.exp (congrArg₂ (fun x y : EReal => x - y) (rowR_at a0 a1 a2 a5 b H n p) (congrArg (fun f => Finset.univ.fold max ⊥ f) (funext fun q => rowR_at a0 a1 a2 a5 b H n q)))

theorem outRow_at (a0 : Vec Ideal S40x100x8x32 .bf16) (a1 : Vec Ideal S40x1024x8x32 .fp8e4m3) (a2 : Vec Ideal S40x1024x8 .f32) (a3 : Vec Ideal S40x1024x8x32 .fp8e4m3) (a4 : Vec Ideal S40x1024x8 .f32) (a5 : IVec S40x100x32 32) (b : Fin 40) (n : Fin 100) (ch : Fin 256) :
    outR (weightR (scoreR (broadcastInDim S40x1x100x1024 ![0, 2, 3] bcast_S40x100x1024_S40x1x100x1024_0_2_3 (attendR a5)) (productR a0 (a1 : S40x1024x8x32.Idx → EReal) a2) (constant (F := Ideal) S_ .f32 0xFF800000#32))) (a3 : S40x1024x8x32.Idx → EReal) a4 (ix3 b n ch) = refAt a0 a1 a2 a3 a4 a5 b n ⟨ch / 32, by omega⟩ ⟨ch % 32, by omega⟩ := by
  rw [outR_at]
  refine congrArg₂ Ideal.div (Finset.sum_congr rfl fun p _ => ?_) (Finset.sum_congr rfl fun p _ => weightRow_at a0 a1 a2 a5 b _ n p)
  rw [weightRow_at]

theorem result_at (c : Dev nD) : Pipeline.afterTail₀ cfgs (dats m) 0 (V0 m) [hostOps1, hostOps1_1, hostOps1_2] c main_v47 = resultAt m c := by
  rw [result_after]
  funext i
  obtain ⟨b, n, ch, rfl⟩ : ∃ (b : Fin 40) (n : Fin 100) (ch : Fin 256), i = ix3 b n ch := ⟨i 0, i 1, i 2, eq_ix3 i⟩
  exact outRow_at _ _ _ _ _ _ b n ch

/-- The run, read: the result array as the arguments have it, the arguments unchanged. -/
theorem value_run : θ_run defs (onTc (τ := τ) (main (F := Ideal))) ⟨m, fun _ => 0, ρ⟩ (fun r => ∀ c : Dev nD,
      r.2.mem ((c.tc : Thread nD τ).loc main_v47) = resultAt m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) := by
  have h1 : θ_run defs (onTc (τ := τ) (main (F := Ideal))) ⟨m, fun _ => 0, ρ⟩ (fun r => ∀ c : Dev nD, r.2.mem ((c.tc : Thread nD τ).loc main_v47) = resultAt m c) :=
    (θ_run defs _ _).mono (fun _ h c => ((h c).2 main_v47 (Pipeline.mem_restRefs_of main_v47 (by decide) (by decide))).trans (result_at m c)) (run_main m ρ)
  exact (θ_run defs _ _).mono (fun _ h c => ⟨h.1 c, h.2 c⟩) (θ_run_and h1 (unchanged m ρ))

end Cert.ReferenceIdeal.Gen

end
-- ==== Proof.Attention.Equation.lean ====
/- The equation between the two programs: with positive key scales the kernel's scores are the reference's times 1 / log 2, so that
   its weights, powers of two, are the reference's exponentials. -/
module

public import proofs.«01_k».proof.Proof.Attention.Result
public import proofs.«01_k».proof.Proof.Attention.Reference
public import proofs.«01_k».proof.Proof.Gen.Pre_scales_positive
public import proofs.«01_k».proof.Defs

@[expose] public section

set_option maxRecDepth 16384

noncomputable section

namespace Cert.Proof

open Idealize.ShloMosaic Idealize.ShloMosaic.TcCoe Idealize.ShloMosaic.Tactic Idealize.SL Idealize.SL.Sem

/-! ## Scores scaled by 1 / log 2 -/

theorem invLog_pos : (0 : ℝ) < (Real.log 2)⁻¹ := inv_pos.mpr (Real.log_pos one_lt_two)

theorem exp2_scaled (x : EReal) : Ideal.exp2 (x * (((Real.log 2)⁻¹ : ℝ) : EReal)) = Ideal.exp x := by
  induction x with
  | bot => rw [EReal.bot_mul_coe_of_pos invLog_pos]; rfl
  | top => rw [EReal.top_mul_coe_of_pos invLog_pos]; rfl
  | coe r =>
    rw [← EReal.coe_mul]
    show ((Real.rpow 2 (r * (Real.log 2)⁻¹) : ℝ) : EReal) = ((Real.exp r : ℝ) : EReal)
    have h : Real.rpow 2 (r * (Real.log 2)⁻¹) = Real.exp r := by
      show (2 : ℝ) ^ (r * (Real.log 2)⁻¹) = _
      rw [Real.rpow_def_of_pos two_pos]
      congr 1
      have := (Real.log_pos one_lt_two).ne'
      field_simp
    rw [h]

theorem sub_scaled {l : ℝ} (hl : 0 < l) (x y : EReal) : x * (l : EReal) - y * (l : EReal) = (x - y) * (l : EReal) := by
  induction x with
  | bot =>
    rw [EReal.bot_mul_coe_of_pos hl, EReal.bot_sub, EReal.bot_sub, EReal.bot_mul_coe_of_pos hl]
  | top =>
    induction y with
    | bot => simp [EReal.bot_mul_coe_of_pos hl, EReal.top_mul_coe_of_pos hl]
    | top => simp [EReal.top_mul_coe_of_pos hl, EReal.bot_mul_coe_of_pos hl]
    | coe y => rw [EReal.top_mul_coe_of_pos hl, ← EReal.coe_mul, EReal.top_sub_coe, EReal.top_sub_coe, EReal.top_mul_coe_of_pos hl]
  | coe x =>
    induction y with
    | bot => rw [EReal.bot_mul_coe_of_pos hl, ← EReal.coe_mul, EReal.coe_sub_bot, EReal.coe_sub_bot, EReal.top_mul_coe_of_pos hl]
    | top => rw [EReal.top_mul_coe_of_pos hl, EReal.sub_top, EReal.sub_top, EReal.bot_mul_coe_of_pos hl]
    | coe y => rw [← EReal.coe_mul, ← EReal.coe_mul, ← EReal.coe_sub, ← EReal.coe_sub, ← EReal.coe_mul, sub_mul]

theorem max_scaled {l : ℝ} (hl : 0 < l) {ι : Type} [DecidableEq ι] (s : ι → EReal) (S : Finset ι) :
    S.fold max ⊥ (fun p => s p * (l : EReal)) = S.fold max ⊥ s * (l : EReal) := by
  induction S using Finset.induction_on with
  | empty => rw [Finset.fold_empty, Finset.fold_empty, EReal.bot_mul_coe_of_pos hl]
  | insert x S hx ih =>
    rw [Finset.fold_insert hx, Finset.fold_insert hx, ih]
    have hm : Monotone fun a : EReal => a * (l : EReal) := fun a b h => mul_le_mul_of_nonneg_right h (EReal.coe_nonneg.mpr hl.le)
    exact (hm.map_max).symm

/-- The weights to the base two of the scaled scores are the exponentials of the scores. -/
theorem weight2_scaled (s s' : Fin 1024 → EReal) (h : ∀ p, s' p = s p * (((Real.log 2)⁻¹ : ℝ) : EReal)) (p : Fin 1024) :
    Cert.KernelIdeal.Gen.weight2 s' p = Cert.ReferenceIdeal.Gen.weightE s p := by
  obtain rfl : s' = fun p => s p * (((Real.log 2)⁻¹ : ℝ) : EReal) := funext h
  unfold Cert.KernelIdeal.Gen.weight2 Cert.ReferenceIdeal.Gen.weightE
  rw [max_scaled invLog_pos, sub_scaled invLog_pos, exp2_scaled]

/-! ## The programs' scores and outputs -/

section
variable (a0 : Vec Ideal Cert.KernelIdeal.S40x100x8x32 .bf16) (a1 a3 : Vec Ideal Cert.KernelIdeal.S40x1024x8x32 .fp8e4m3) (a2 a4 : Vec Ideal Cert.KernelIdeal.S40x1024x8 .f32) (a5 : IVec Cert.KernelIdeal.S40x100x32 32)

theorem masked_iff (b : Fin 40) (n : Fin 100) (p : Fin 1024) : Cert.KernelIdeal.Gen.MaskedPixel a5 b n p ↔ ¬ Cert.ReferenceIdeal.Gen.Attended a5 b n p := by
  unfold Cert.KernelIdeal.Gen.MaskedPixel Cert.ReferenceIdeal.Gen.Attended
  rw [not_or, Bool.not_eq_true, and_comm]

theorem score_scaled (hpos : ∀ b p H, 0 < a2 (ix3 b p H)) (b : Fin 40) (n : Fin 100) (H : Fin 8) (p : Fin 1024) :
    Cert.KernelIdeal.Gen.scoreAt a0 a1 a2 a5 b n H p = Cert.ReferenceIdeal.Gen.refScore a0 a1 a2 a5 b n H p * (((Real.log 2)⁻¹ : ℝ) : EReal) := by
  unfold Cert.KernelIdeal.Gen.scoreAt Cert.KernelIdeal.Gen.maskAt Cert.ReferenceIdeal.Gen.refScore
  by_cases h : Cert.ReferenceIdeal.Gen.Attended a5 b n p
  · rw [if_neg (fun hm => (masked_iff a5 b n p).mp hm h), if_pos h, add_zero]
    unfold Cert.KernelIdeal.Gen.scoreScale
    rw [EReal.coe_mul, ← mul_assoc, ← mul_assoc, ← mul_assoc]
  · rw [if_pos ((masked_iff a5 b n p).mpr h), if_neg h, EReal.add_bot, EReal.bot_mul_coe_of_pos invLog_pos]
    refine EReal.bot_mul_of_pos (EReal.mul_pos (hpos b p H) ?_)
    unfold Cert.KernelIdeal.Gen.scoreScale
    exact EReal.coe_pos.mpr (mul_pos (by norm_num) invLog_pos)

theorem out_eq (hpos : ∀ b p H, 0 < a2 (ix3 b p H)) (b : Fin 40) (n : Fin 100) (H : Fin 8) (d : Fin 32) :
    Cert.KernelIdeal.Gen.outAt a0 a1 a2 a3 a4 a5 b n H d = Cert.ReferenceIdeal.Gen.refAt a0 a1 a2 a3 a4 a5 b n H d := by
  have hw := weight2_scaled _ _ (score_scaled a0 a1 a2 a5 hpos b n H)
  unfold Cert.KernelIdeal.Gen.outAt Cert.ReferenceIdeal.Gen.refAt
  refine congrArg₂ Ideal.div (Finset.sum_congr rfl fun p _ => ?_) (Finset.sum_congr rfl fun p _ => hw p)
  rw [hw p, mul_assoc, mul_comm (a4 (ix3 b p H))]
end

/-! ## The precondition -/

theorem scales_pos (m : (ℓ : Loc Cert.KernelIdeal.nD Cert.KernelIdeal.τ Cert.KernelIdeal.sig) → Buf (Elt Ideal) ℓ)
    (h : Cert.Pre_KernelIdeal_scales_positive m) (c : Dev Cert.KernelIdeal.nD) (b : Fin 40) (p : Fin 1024) (H : Fin 8) :
    (0 : EReal) < m ((c.tc : Thread Cert.KernelIdeal.nD Cert.KernelIdeal.τ).loc Cert.KernelIdeal.main_arg2) (ix3 b p H) := by
  have h1 := congrFun (h c) (ix3 b p H)
  unfold Cert.Pre_scales_positive.fn at h1
  pointwise at h1
  by_contra hn
  rw [decide_eq_false hn] at h1
  exact absurd h1 (by decide)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_scales_positive
public import proofs.«01_k».proof.Proof.Attention.Word.Frame
public import proofs.«01_k».proof.Proof.Attention.Result
public import proofs.«01_k».proof.Proof.Attention.Reference
public import proofs.«01_k».proof.Proof.Attention.Equation
public import Idealize.ShloMosaic.Adequacy
public import Idealize.ShloMosaic.Init

@[expose] public section

noncomputable section

namespace Cert.Proof

open Idealize.ShloMosaic Idealize.SL.Sem

theorem preserves : preserves_Kernel_KernelIdeal :=
  ⟨IdealRules.named_const.statement Cert.KernelIdeal.κ "masked" .f32 0xFE000000#32 ⊥ rfl,
    IdealRules.named_const.statement Cert.KernelIdeal.κ "score" .f32 0x3E8293EE#32 (((11863283 / 67108864) * (Real.log 2)⁻¹ : ℝ) : EReal) rfl⟩

/-- Both programs end with the result array the kernel's arguments determine. -/
theorem algebraic : algebraic_KernelIdeal_ReferenceIdeal_pre_scales_positive := by
  intro m g m' g' hpre hargs
  refine ⟨fun c => Cert.KernelIdeal.Gen.resultAt m c, Cert.KernelIdeal.Gen.value_run m g, ?_⟩
  refine (θ_run Cert.ReferenceIdeal.defs _ _).mono (fun _ h c => ⟨(h c).1.trans ?_, (h c).2⟩) (Cert.ReferenceIdeal.Gen.value_run m' g')
  obtain ⟨h0, h1, h2, h3, h4, h5⟩ := hargs c
  unfold Cert.ReferenceIdeal.Gen.resultAt
  rw [h0, h1, h2, h3, h4, h5]
  funext i
  exact (out_eq _ _ _ _ _ _ (scales_pos m hpre c) _ _ _ _).symm

theorem claim : Cert.Claim := ⟨Cert.Kernel.Gen.facts, Cert.KernelIdeal.Gen.facts, Cert.ReferenceIdeal.Gen.facts, Cert.Pre_scales_positive.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
